-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_active_from_rest [hPre_all_active_from_rest : Cert.Pre_all_active_from_rest.Facts] (m : (ℓ : Loc Cert.KernelIdeal.nD Cert.KernelIdeal.τ Cert.KernelIdeal.sig) → Buf (Elt Ideal) ℓ) : Prop :=
  ∀ c : Dev Cert.KernelIdeal.nD,
    (Cert.Pre_all_active_from_rest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_active_from_rest [hPre_all_active_from_rest : Cert.Pre_all_active_from_rest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_active_from_rest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_all_active_from_rest [hKernelIdeal : Cert.KernelIdeal.Facts] [hPre_all_active_from_rest : Cert.Pre_all_active_from_rest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_active_from_rest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_all_active_from_rest [hReferenceIdeal : Cert.ReferenceIdeal.Facts] [hPre_all_active_from_rest : Cert.Pre_all_active_from_rest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_active_from_rest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_all_active_from_rest [hKernelIdeal : Cert.KernelIdeal.Facts] [hReferenceIdeal : Cert.ReferenceIdeal.Facts] [hPre_all_active_from_rest : Cert.Pre_all_active_from_rest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_active_from_rest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_15) = v0 c
          ∧ r.2.mem ((c.tc : Thread Cert.ReferenceIdeal.nD Cert.ReferenceIdeal.τ).loc Cert.ReferenceIdeal.main_v1_16) = v1 c
          ∧ r.2.mem ((c.tc : Thread Cert.ReferenceIdeal.nD Cert.ReferenceIdeal.τ).loc Cert.ReferenceIdeal.main_v1_17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_all_active_from_rest : Cert.Pre_all_active_from_rest.Facts),
    quiescent_Kernel (hKernel := hKernel)
    ∧ quiescent_KernelIdeal (hKernelIdeal := hKernelIdeal)
    ∧ quiescent_KernelIdeal_pre_all_active_from_rest (hKernelIdeal := hKernelIdeal) (hPre_all_active_from_rest := hPre_all_active_from_rest)
    ∧ quiescent_ReferenceIdeal (hReferenceIdeal := hReferenceIdeal)
    ∧ quiescent_ReferenceIdeal_pre_all_active_from_rest (hReferenceIdeal := hReferenceIdeal) (hPre_all_active_from_rest := hPre_all_active_from_rest)
    ∧ preserves_Kernel_KernelIdeal
    ∧ algebraic_KernelIdeal_ReferenceIdeal_pre_all_active_from_rest (hKernelIdeal := hKernelIdeal) (hReferenceIdeal := hReferenceIdeal) (hPre_all_active_from_rest := hPre_all_active_from_rest)
-- ==== Pre_all_active_from_rest.lean ====
abbrev S20x16384x2 : Shape := ⟨3, ![20, 16384, 2]⟩
abbrev S20x16384x8 : Shape := ⟨3, ![20, 16384, 8]⟩
abbrev S16384x128 : Shape := ⟨2, ![16384, 128]⟩
abbrev S20x16384 : Shape := ⟨2, ![20, 16384]⟩
abbrev S20x16384x2x24 : Shape := ⟨4, ![20, 16384, 2, 24]⟩
abbrev S64x2 : Shape := ⟨2, ![64, 2]⟩
abbrev S64 : Shape := ⟨1, ![64]⟩
abbrev S64x24 : Shape := ⟨2, ![64, 24]⟩
abbrev S512x128 : Shape := ⟨2, ![512, 128]⟩
abbrev S512 : Shape := ⟨1, ![512]⟩
abbrev S5x128 : Shape := ⟨2, ![5, 128]⟩
abbrev S5 : Shape := ⟨1, ![5]⟩
abbrev S_ : Shape := ⟨0, ![]⟩
abbrev S20x16384x128 : Shape := ⟨3, ![20, 16384, 128]⟩

class Facts : Prop where
  bcast_S_S20x16384 : S_.BroadcastsInDim S20x16384 (![] : Fin 0 → Fin S20x16384.rank)
  bcast_S20x16384_S20x16384x128_0_1 : S20x16384.BroadcastsInDim S20x16384x128 (![0, 1] : Fin 2 → Fin S20x16384x128.rank)
  bcast_S_S16384x128 : S_.BroadcastsInDim S16384x128 (![] : Fin 0 → Fin S16384x128.rank)
  bcast_S16384x128_S20x16384x128_1_2 : S16384x128.BroadcastsInDim S20x16384x128 (![1, 2] : Fin 2 → Fin S20x16384x128.rank)

variable [Facts]

def fn {F : FTy → Type} [FloatOps F] (main_arg0 : FVec F S20x16384x2 .f32) (main_arg1 : FVec F S20x16384x8 .f32) (main_arg2 : FVec F S16384x128 .f32) (main_arg3 : FVec F S16384x128 .f32) (main_arg4 : FVec F S20x16384 .f32) (main_arg5 : FVec F S20x16384x2x24 .f32) (main_arg6 : FVec F S64x2 .f32) (main_arg7 : FVec F S64 .f32) (main_arg8 : FVec F S64x24 .f32) (main_arg9 : FVec F S64 .f32) (main_arg10 : FVec F S512x128 .f32) (main_arg11 : FVec F S512x128 .f32) (main_arg12 : FVec F S512 .f32) (main_arg13 : FVec F S512 .f32) (main_arg14 : FVec F S5x128 .f32) (main_arg15 : FVec F S5 .f32) : IVec S20x16384x128 1 :=
  let main_cst : FVec F S_ .f32 := constant S_ .f32 0x3F800000#32
  let main_v0 : FVec F S20x16384 .f32 := broadcastInDim S20x16384 ![] bcast_S_S20x16384 main_cst
  let main_v1 : IVec S20x16384 1 := cmpf .oeq main_arg4 main_v0
  let main_v2 : IVec S20x16384x128 1 := broadcastInDim S20x16384x128 ![0, 1] bcast_S20x16384_S20x16384x128_0_1 main_v1
  let main_cst_0 : FVec F S_ .f32 := constant S_ .f32 0x00000000#32
  let main_v3 : FVec F S16384x128 .f32 := broadcastInDim S16384x128 ![] bcast_S_S16384x128 main_cst_0
  let main_v4 : IVec S16384x128 1 := cmpf .oeq main_arg2 main_v3
  let main_cst_1 : FVec F S_ .f32 := constant S_ .f32 0x00000000#32
  let main_v5 : FVec F S16384x128 .f32 := broadcastInDim S16384x128 ![] bcast_S_S16384x128 main_cst_1
  let main_v6 : IVec S16384x128 1 := cmpf .oeq main_arg3 main_v5
  let main_v7 : IVec S16384x128 1 := andi main_v4 main_v6
  let main_v8 : IVec S20x16384x128 1 := broadcastInDim S20x16384x128 ![1, 2] bcast_S16384x128_S20x16384x128_1_2 main_v7
  let main_v9 : IVec S20x16384x128 1 := andi main_v2 main_v8
  main_v9
-- ==== Kernel.lean ====
abbrev S20x16384x2 : Shape := ⟨3, ![20, 16384, 2]⟩
abbrev S20x16384x8 : Shape := ⟨3, ![20, 16384, 8]⟩
abbrev S16384x128 : Shape := ⟨2, ![16384, 128]⟩
abbrev S20x16384 : Shape := ⟨2, ![20, 16384]⟩
abbrev S20x16384x2x24 : Shape := ⟨4, ![20, 16384, 2, 24]⟩
abbrev S64x2 : Shape := ⟨2, ![64, 2]⟩
abbrev S64 : Shape := ⟨1, ![64]⟩
abbrev S64x24 : Shape := ⟨2, ![64, 24]⟩
abbrev S512x128 : Shape := ⟨2, ![512, 128]⟩
abbrev S512 : Shape := ⟨1, ![512]⟩
abbrev S5x128 : Shape := ⟨2, ![5, 128]⟩
abbrev S5 : Shape := ⟨1, ![5]⟩
abbrev S20x16384x48 : Shape := ⟨3, ![20, 16384, 48]⟩
abbrev S_ : Shape := ⟨0, ![]⟩
abbrev S26x128 : Shape := ⟨2, ![26, 128]⟩
abbrev S2x64 : Shape := ⟨2, ![2, 64]⟩
abbrev S1 : Shape := ⟨1, ![1]⟩
abbrev S2 : Shape := ⟨1, ![2]⟩
abbrev S24x64 : Shape := ⟨2, ![24, 64]⟩
abbrev S128 : Shape := ⟨1, ![128]⟩
abbrev S1x128 : Shape := ⟨2, ![1, 128]⟩
abbrev S128x512 : Shape := ⟨2, ![128, 512]⟩
abbrev S256x512 : Shape := ⟨2, ![256, 512]⟩
abbrev S128x5 : Shape := ⟨2, ![128, 5]⟩
abbrev S1x512 : Shape := ⟨2, ![1, 512]⟩
abbrev S1x5 : Shape := ⟨2, ![1, 5]⟩
abbrev S20x16384x5 : Shape := ⟨3, ![20, 16384, 5]⟩
abbrev S1x4096x2 : Shape := ⟨3, ![1, 4096, 2]⟩
abbrev S1x4096x48 : Shape := ⟨3, ![1, 4096, 48]⟩
abbrev S1x4096x5 : Shape := ⟨3, ![1, 4096, 5]⟩
abbrev S4096x128 : Shape := ⟨2, ![4096, 128]⟩
abbrev S4096x2 : Shape := ⟨2, ![4096, 2]⟩
abbrev S4096x48 : Shape := ⟨2, ![4096, 48]⟩
abbrev S4096x24 : Shape := ⟨2, ![4096, 24]⟩
abbrev S4096x26 : Shape := ⟨2, ![4096, 26]⟩
abbrev S4096x256 : Shape := ⟨2, ![4096, 256]⟩
abbrev S4096x512 : Shape := ⟨2, ![4096, 512]⟩
abbrev S4096x5 : Shape := ⟨2, ![4096, 5]⟩

abbrev nBuf : Space → Nat
  | .hbm => 80
  | .vmem => 18
  | .smem => 0
  | _ => 0

abbrev bufTy : (tb : Table) → Fin (tcTables nBuf tb) → BufTy
  | .hbm, ⟨0, _⟩ => ⟨S20x16384x2, .f32⟩
  | .hbm, ⟨1, _⟩ => ⟨S20x16384x8, .f32⟩
  | .hbm, ⟨2, _⟩ => ⟨S16384x128, .f32⟩
  | .hbm, ⟨3, _⟩ => ⟨S16384x128, .f32⟩
  | .hbm, ⟨4, _⟩ => ⟨S20x16384, .f32⟩
  | .hbm, ⟨5, _⟩ => ⟨S20x16384x2x24, .f32⟩
  | .hbm, ⟨6, _⟩ => ⟨S64x2, .f32⟩
  | .hbm, ⟨7, _⟩ => ⟨S64, .f32⟩
  | .hbm, ⟨8, _⟩ => ⟨S64x24, .f32⟩
  | .hbm, ⟨9, _⟩ => ⟨S64, .f32⟩
  | .hbm, ⟨10, _⟩ => ⟨S512x128, .f32⟩
  | .hbm, ⟨11, _⟩ => ⟨S512x128, .f32⟩
  | .hbm, ⟨12, _⟩ => ⟨S512, .f32⟩
  | .hbm, ⟨13, _⟩ => ⟨S512, .f32⟩
  | .hbm, ⟨14, _⟩ => ⟨S5x128, .f32⟩
  | .hbm, ⟨15, _⟩ => ⟨S5, .f32⟩
  | .hbm, ⟨16, _⟩ => ⟨S20x16384x48, .f32⟩
  | .hbm, ⟨17, _⟩ => ⟨S_, .f32⟩
  | .hbm, ⟨18, _⟩ => ⟨S26x128, .f32⟩
  | .hbm, ⟨19, _⟩ => ⟨S2x64, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S26x128, .f32⟩
  | .hbm, ⟨26, _⟩ => ⟨S24x64, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S26x128, .f32⟩
  | .hbm, ⟨33, _⟩ => ⟨S26x128, .bf16⟩
  | .hbm, ⟨34, _⟩ => ⟨S128, .f32⟩
  | .hbm, ⟨35, _⟩ => ⟨S1x128, .f32⟩
  | .hbm, ⟨36, _⟩ => ⟨S128x512, .f32⟩
  | .hbm, ⟨37, _⟩ => ⟨S128x512, .f32⟩
  | .hbm, ⟨38, _⟩ => ⟨S256x512, .f32⟩
  | .hbm, ⟨39, _⟩ => ⟨S128x5, .f32⟩
  | .hbm, ⟨40, _⟩ => ⟨S512, .f32⟩
  | .hbm, ⟨41, _⟩ => ⟨S1x512, .f32⟩
  | .hbm, ⟨42, _⟩ => ⟨S512, .i32⟩
  | .hbm, ⟨43, _⟩ => ⟨S_, .i32⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S1x512, .f32⟩
  | .hbm, ⟨71, _⟩ => ⟨S256x512, .f32⟩
  | .hbm, ⟨72, _⟩ => ⟨S256x512, .f32⟩
  | .hbm, ⟨73, _⟩ => ⟨S256x512, .bf16⟩
  | .hbm, ⟨74, _⟩ => ⟨S1x512, .f32⟩
  | .hbm, ⟨75, _⟩ => ⟨S1x512, .f32⟩
  | .hbm, ⟨76, _⟩ => ⟨S1x5, .f32⟩
  | .hbm, ⟨77, _⟩ => ⟨S20x16384x5, .f32⟩
  | .hbm, ⟨78, _⟩ => ⟨S16384x128, .f32⟩
  | .hbm, ⟨79, _⟩ => ⟨S16384x128, .f32⟩
  | .local _ .vmem, ⟨0, _⟩ => ⟨S1x4096x2, .f32⟩
  | .local _ .vmem, ⟨1, _⟩ => ⟨S1x4096x2, .f32⟩
  | .local _ .vmem, ⟨2, _⟩ => ⟨S1x4096x48, .f32⟩
  | .local _ .vmem, ⟨3, _⟩ => ⟨S1x4096x48, .f32⟩
  | .local _ .vmem, ⟨4, _⟩ => ⟨S26x128, .bf16⟩
  | .local _ .vmem, ⟨5, _⟩ => ⟨S1x128, .f32⟩
  | .local _ .vmem, ⟨6, _⟩ => ⟨S256x512, .bf16⟩
  | .local _ .vmem, ⟨7, _⟩ => ⟨S1x512, .f32⟩
  | .local _ .vmem, ⟨8, _⟩ => ⟨S128x5, .f32⟩
  | .local _ .vmem, ⟨9, _⟩ => ⟨S1x5, .f32⟩
  | .local _ .vmem, ⟨10, _⟩ => ⟨S1x4096x5, .f32⟩
  | .local _ .vmem, ⟨11, _⟩ => ⟨S1x4096x5, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S20x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v22 : Ref sig .tc := ⟨.hbm, 60, rfl⟩
abbrev main_c_4 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34_0 : Ref sig .tc := ⟨.hbm, 77, rfl⟩
abbrev main_v34_1 : Ref sig .tc := ⟨.hbm, 78, rfl⟩
abbrev main_v34_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 20], ![false, false]⟩

def k0_cond2 (i : grid0.Coords) : BitVec 1 :=
  let arg1 : BitVec 32 := BitVec.ofNat 32 (i 1).val
  let c19_i32 : BitVec 32 := 19#32
  let v71 : BitVec 1 := Scalar.cmpi .eq arg1 c19_i32
  let v72 : BitVec 32 := Scalar.extui v71
  let c0_i32_38 : BitVec 32 := 0#32
  let v73 : BitVec 1 := Scalar.cmpi .ne v72 c0_i32_38
  v73

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S26x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S20x16384x2 : Shape := ⟨3, ![20, 16384, 2]⟩
abbrev S20x16384x8 : Shape := ⟨3, ![20, 16384, 8]⟩
abbrev S16384x128 : Shape := ⟨2, ![16384, 128]⟩
abbrev S20x16384 : Shape := ⟨2, ![20, 16384]⟩
abbrev S20x16384x2x24 : Shape := ⟨4, ![20, 16384, 2, 24]⟩
abbrev S64x2 : Shape := ⟨2, ![64, 2]⟩
abbrev S64 : Shape := ⟨1, ![64]⟩
abbrev S64x24 : Shape := ⟨2, ![64, 24]⟩
abbrev S512x128 : Shape := ⟨2, ![512, 128]⟩
abbrev S512 : Shape := ⟨1, ![512]⟩
abbrev S5x128 : Shape := ⟨2, ![5, 128]⟩
abbrev S5 : Shape := ⟨1, ![5]⟩
abbrev S_ : Shape := ⟨0, ![]⟩
abbrev S20x16384x5 : Shape := ⟨3, ![20, 16384, 5]⟩
abbrev S1x16384 : Shape := ⟨2, ![1, 16384]⟩
abbrev S16384 : Shape := ⟨1, ![16384]⟩
abbrev S1x16384x2 : Shape := ⟨3, ![1, 16384, 2]⟩
abbrev S16384x2 : Shape := ⟨2, ![16384, 2]⟩
abbrev S16384x1 : Shape := ⟨2, ![16384, 1]⟩
abbrev S1x16384x2x24 : Shape := ⟨4, ![1, 16384, 2, 24]⟩
abbrev S16384x2x24 : Shape := ⟨3, ![16384, 2, 24]⟩
abbrev S16384x24 : Shape := ⟨2, ![16384, 24]⟩
abbrev S2x64 : Shape := ⟨2, ![2, 64]⟩
abbrev S16384x64 : Shape := ⟨2, ![16384, 64]⟩
abbrev S1x64 : Shape := ⟨2, ![1, 64]⟩
abbrev S24x64 : Shape := ⟨2, ![24, 64]⟩
abbrev S128x512 : Shape := ⟨2, ![128, 512]⟩
abbrev S16384x512 : Shape := ⟨2, ![16384, 512]⟩
abbrev S1x512 : Shape := ⟨2, ![1, 512]⟩
abbrev S128x5 : Shape := ⟨2, ![128, 5]⟩
abbrev S16384x5 : Shape := ⟨2, ![16384, 5]⟩
abbrev S1x5 : Shape := ⟨2, ![1, 5]⟩
abbrev S1x16384x5 : Shape := ⟨3, ![1, 16384, 5]⟩

abbrev nBuf : Space → Nat
  | .hbm => 233
  | .vmem => 0
  | .smem => 0
  | _ => 0

abbrev hbmTy0_0 (i : Nat) : BufTy := match i % 128 with
  | 0 => ⟨S20x16384x2, .f32⟩
  | 1 => ⟨S20x16384x8, .f32⟩
  | 2 => ⟨S16384x128, .f32⟩
  | 3 => ⟨S16384x128, .f32⟩
  | 4 => ⟨S20x16384, .f32⟩
  | 5 => ⟨S20x16384x2x24, .f32⟩
  | 6 => ⟨S64x2, .f32⟩
  | 7 => ⟨S64, .f32⟩
  | 8 => ⟨S64x24, .f32⟩
  | 9 => ⟨S64, .f32⟩
  | 10 => ⟨S512x128, .f32⟩
  | 11 => ⟨S512x128, .f32⟩
  | 12 => ⟨S512, .f32⟩
  | 13 => ⟨S512, .f32⟩
  | 14 => ⟨S5x128, .f32⟩
  | 15 => ⟨S5, .f32⟩
  | 16 => ⟨S_, .f32⟩
  | 17 => ⟨S20x16384x5, .f32⟩
  | 18 => ⟨S_, .i32⟩
  | 19 => ⟨S_, .i32⟩
  | 20 => ⟨S20x16384, .f32⟩
  | 21 => ⟨S20x16384x2, .f32⟩
  | 22 => ⟨S20x16384x2x24, .f32⟩
  | 23 => ⟨S64x2, .f32⟩
  | 24 => ⟨S64, .f32⟩
  | 25 => ⟨S64x24, .f32⟩
  | 26 => ⟨S64, .f32⟩
  | 27 => ⟨S512x128, .f32⟩
  | 28 => ⟨S512, .f32⟩
  | 29 => ⟨S512x128, .f32⟩
  | 30 => ⟨S512, .f32⟩
  | 31 => ⟨S5x128, .f32⟩
  | 32 => ⟨S5, .f32⟩
  | 33 => ⟨S_, .i32⟩
  | 34 => ⟨S_, .i32⟩
  | 35 => ⟨S20x16384x5, .f32⟩
  | 36 => ⟨S16384x128, .f32⟩
  | 37 => ⟨S16384x128, .f32⟩
  | 38 => ⟨S_, .i32⟩
  | 39 => ⟨S_, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x16384, .f32⟩
  | 50 => ⟨S16384, .f32⟩
  | 51 => ⟨S_, .f32⟩
  | 52 => ⟨S16384, .f32⟩
  | 53 => ⟨S16384, .i1⟩
  | 54 => ⟨S16384, .i32⟩
  | 55 => ⟨S_, .i32⟩
  | 56 => ⟨S_, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i1⟩
  | 63 => ⟨S_, .i32⟩
  | 64 => ⟨S_, .i32⟩
  | 65 => ⟨S16384, .i32⟩
  | 66 => ⟨S16384, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x16384x2, .f32⟩
  | 76 => ⟨S16384x2, .f32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S16384x2, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x16384x2x24, .f32⟩
  | 96 => ⟨S16384x2x24, .f32⟩
  | 97 => ⟨S_, .f32⟩
  | 98 => ⟨S16384x24, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S16384x128, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S16384x128, .f32⟩
  | 117 => ⟨S2x64, .f32⟩
  | 118 => ⟨S16384x64, .f32⟩
  | 119 => ⟨S1x64, .f32⟩
  | 120 => ⟨S16384x64, .f32⟩
  | 121 => ⟨S16384x64, .f32⟩
  | 122 => ⟨S_, .f32⟩
  | 123 => ⟨S16384x64, .f32⟩
  | 124 => ⟨S16384x64, .f32⟩
  | 125 => ⟨S24x64, .f32⟩
  | 126 => ⟨S16384x64, .f32⟩
  | 127 => ⟨S1x64, .f32⟩
  | _ => ⟨S20x16384x2, .f32⟩

abbrev hbmTy0_1 (i : Nat) : BufTy := match i % 128 with
  | 0 => ⟨S16384x64, .f32⟩
  | 1 => ⟨S16384x64, .f32⟩
  | 2 => ⟨S_, .f32⟩
  | 3 => ⟨S16384x64, .f32⟩
  | 4 => ⟨S16384x64, .f32⟩
  | 5 => ⟨S16384x128, .f32⟩
  | 6 => ⟨S128x512, .f32⟩
  | 7 => ⟨S16384x512, .f32⟩
  | 8 => ⟨S1x512, .f32⟩
  | 9 => ⟨S16384x512, .f32⟩
  | 10 => ⟨S16384x512, .f32⟩
  | 11 => ⟨S128x512, .f32⟩
  | 12 => ⟨S16384x512, .f32⟩
  | 13 => ⟨S16384x512, .f32⟩
  | 14 => ⟨S1x512, .f32⟩
  | 15 => ⟨S16384x512, .f32⟩
  | 16 => ⟨S16384x512, .f32⟩
  | 17 => ⟨S16384x128, .f32⟩
  | 18 => ⟨S16384x128, .f32⟩
  | 19 => ⟨S16384x128, .f32⟩
  | 20 => ⟨S16384x128, .f32⟩
  | 21 => ⟨S16384x128, .f32⟩
  | 22 => ⟨S16384x128, .f32⟩
  | 23 => ⟨S_, .f32⟩
  | 24 => ⟨S16384x128, .f32⟩
  | 25 => ⟨S16384x128, .f32⟩
  | 26 => ⟨S_, .f32⟩
  | 27 => ⟨S16384x128, .f32⟩
  | 28 => ⟨S16384x128, .f32⟩
  | 29 => ⟨S16384x128, .f32⟩
  | 30 => ⟨S16384x128, .f32⟩
  | 31 => ⟨S_, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S16384x128, .f32⟩
  | 38 => ⟨S16384x128, .f32⟩
  | 39 => ⟨S16384x128, .f32⟩
  | 40 => ⟨S_, .f32⟩
  | 41 => ⟨S16384x128, .f32⟩
  | 42 => ⟨S16384x128, .f32⟩
  | 43 => ⟨S_, .f32⟩
  | 44 => ⟨S16384x128, .f32⟩
  | 45 => ⟨S16384x128, .f32⟩
  | 46 => ⟨S16384x128, .f32⟩
  | 47 => ⟨S16384x128, .f32⟩
  | 48 => ⟨S16384x128, .f32⟩
  | 49 => ⟨S16384x128, .f32⟩
  | 50 => ⟨S16384x128, .f32⟩
  | 51 => ⟨S128x5, .f32⟩
  | 52 => ⟨S16384x5, .f32⟩
  | 53 => ⟨S1x5, .f32⟩
  | 54 => ⟨S16384x5, .f32⟩
  | 55 => ⟨S16384x5, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x16384x5, .f32⟩
  | 65 => ⟨S16384x5, .f32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384x5, .f32⟩
  | 75 => ⟨S1x16384x5, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S20x16384x5, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384x128, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384x128, .f32⟩
  | 103 => ⟨S_, .i32⟩
  | 104 => ⟨S_, .i32⟩
  | _ => ⟨S20x16384x2, .f32⟩

abbrev hbmTy (i : Nat) : BufTy := match i / 128 with
  | 0 => hbmTy0_0 i
  | 1 => hbmTy0_1 i
  | _ => ⟨S20x16384x2, .f32⟩

abbrev bufTy : (tb : Table) → Fin (tcTables nBuf tb) → BufTy
  | .hbm, ⟨i, _⟩ => hbmTy i
  | _, _ => ⟨S20x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_c_0 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v1_4 : Ref sig .tc := ⟨.hbm, 24, rfl⟩
abbrev main_v1_5 : Ref sig .tc := ⟨.hbm, 25, rfl⟩
abbrev main_v1_6 : Ref sig .tc := ⟨.hbm, 26, rfl⟩
abbrev main_v1_7 : Ref sig .tc := ⟨.hbm, 27, rfl⟩
abbrev main_v1_8 : Ref sig .tc := ⟨.hbm, 28, rfl⟩
abbrev main_v1_9 : Ref sig .tc := ⟨.hbm, 29, rfl⟩
abbrev main_v1_10 : Ref sig .tc := ⟨.hbm, 30, rfl⟩
abbrev main_v1_11 : Ref sig .tc := ⟨.hbm, 31, rfl⟩
abbrev main_v1_12 : Ref sig .tc := ⟨.hbm, 32, rfl⟩
abbrev main_v1_13 : Ref sig .tc := ⟨.hbm, 33, rfl⟩
abbrev main_v1_14 : Ref sig .tc := ⟨.hbm, 34, rfl⟩
abbrev main_v1_15 : Ref sig .tc := ⟨.hbm, 35, rfl⟩
abbrev main_v1_16 : Ref sig .tc := ⟨.hbm, 36, rfl⟩
abbrev main_v1_17 : Ref sig .tc := ⟨.hbm, 37, rfl⟩
abbrev main_while0c_c_18 : Ref sig .tc := ⟨.hbm, 38, rfl⟩
abbrev main_while0c_v2 : Ref sig .tc := ⟨.hbm, 39, rfl⟩
abbrev main_while0b_c_18 : Ref sig .tc := ⟨.hbm, 40, rfl⟩
abbrev main_while0b_v2 : Ref sig .tc := ⟨.hbm, 41, rfl⟩
abbrev main_while0b_call0_c : Ref sig .tc := ⟨.hbm, 42, rfl⟩
abbrev main_while0b_call0_v0 : Ref sig .tc := ⟨.hbm, 43, rfl⟩
abbrev main_while0b_call0_v1 : Ref sig .tc := ⟨.hbm, 44, rfl⟩
abbrev main_while0b_call0_c_0 : Ref sig .tc := ⟨.hbm, 45, rfl⟩
abbrev main_while0b_call0_v2 : Ref sig .tc := ⟨.hbm, 46, rfl⟩
abbrev main_while0b_call0_v3 : Ref sig .tc := ⟨.hbm, 47, rfl⟩
abbrev main_while0b_call0_c_1 : Ref sig .tc := ⟨.hbm, 48, rfl⟩
abbrev main_while0b_call0_v4 : Ref sig .tc := ⟨.hbm, 49, rfl⟩
abbrev main_while0b_v3 : Ref sig .tc := ⟨.hbm, 50, rfl⟩
abbrev main_while0b_cst_19 : Ref sig .tc := ⟨.hbm, 51, rfl⟩
abbrev main_while0b_v4 : Ref sig .tc := ⟨.hbm, 52, rfl⟩
abbrev main_while0b_v5 : Ref sig .tc := ⟨.hbm, 53, rfl⟩
abbrev main_while0b_v6 : Ref sig .tc := ⟨.hbm, 54, rfl⟩
abbrev main_while0b_c_20 : Ref sig .tc := ⟨.hbm, 55, rfl⟩
abbrev main_while0b_call1_v0 : Ref sig .tc := ⟨.hbm, 56, rfl⟩
abbrev main_while0b_call1_v1 : Ref sig .tc := ⟨.hbm, 57, rfl⟩
abbrev main_while0b_v7 : Ref sig .tc := ⟨.hbm, 58, rfl⟩
abbrev main_while0b_v8 : Ref sig .tc := ⟨.hbm, 59, rfl⟩
abbrev main_while0b_c_21 : Ref sig .tc := ⟨.hbm, 60, rfl⟩
abbrev main_while0b_v9 : Ref sig .tc := ⟨.hbm, 61, rfl⟩
abbrev main_while0b_v10 : Ref sig .tc := ⟨.hbm, 62, rfl⟩
abbrev main_while0b_c_22 : Ref sig .tc := ⟨.hbm, 63, rfl⟩
abbrev main_while0b_call3_v0 : Ref sig .tc := ⟨.hbm, 64, rfl⟩
abbrev main_while0b_call3_v1 : Ref sig .tc := ⟨.hbm, 65, rfl⟩
abbrev main_while0b_v11 : Ref sig .tc := ⟨.hbm, 66, rfl⟩
abbrev main_while0b_call4_c : Ref sig .tc := ⟨.hbm, 67, rfl⟩
abbrev main_while0b_call4_v0 : Ref sig .tc := ⟨.hbm, 68, rfl⟩
abbrev main_while0b_call4_v1 : Ref sig .tc := ⟨.hbm, 69, rfl⟩
abbrev main_while0b_call4_c_0 : Ref sig .tc := ⟨.hbm, 70, rfl⟩
abbrev main_while0b_call4_v2 : Ref sig .tc := ⟨.hbm, 71, rfl⟩
abbrev main_while0b_call4_v3 : Ref sig .tc := ⟨.hbm, 72, rfl⟩
abbrev main_while0b_call4_c_1 : Ref sig .tc := ⟨.hbm, 73, rfl⟩
abbrev main_while0b_call4_c_2 : Ref sig .tc := ⟨.hbm, 74, rfl⟩
abbrev main_while0b_call4_v4 : Ref sig .tc := ⟨.hbm, 75, rfl⟩
abbrev main_while0b_v12 : Ref sig .tc := ⟨.hbm, 76, rfl⟩
abbrev main_while0b_c_23 : Ref sig .tc := ⟨.hbm, 77, rfl⟩
abbrev main_while0b_v13 : Ref sig .tc := ⟨.hbm, 78, rfl⟩
abbrev main_while0b_v14 : Ref sig .tc := ⟨.hbm, 79, rfl⟩
abbrev main_while0b_c_24 : Ref sig .tc := ⟨.hbm, 80, rfl⟩
abbrev main_while0b_v15 : Ref sig .tc := ⟨.hbm, 81, rfl⟩
abbrev main_while0b_v16 : Ref sig .tc := ⟨.hbm, 82, rfl⟩
abbrev main_while0b_v17 : Ref sig .tc := ⟨.hbm, 83, rfl⟩
abbrev main_while0b_v18 : Ref sig .tc := ⟨.hbm, 84, rfl⟩
abbrev main_while0b_v19 : Ref sig .tc := ⟨.hbm, 85, rfl⟩
abbrev main_while0b_call5_c : Ref sig .tc := ⟨.hbm, 86, rfl⟩
abbrev main_while0b_call5_v0 : Ref sig .tc := ⟨.hbm, 87, rfl⟩
abbrev main_while0b_call5_v1 : Ref sig .tc := ⟨.hbm, 88, rfl⟩
abbrev main_while0b_call5_c_0 : Ref sig .tc := ⟨.hbm, 89, rfl⟩
abbrev main_while0b_call5_v2 : Ref sig .tc := ⟨.hbm, 90, rfl⟩
abbrev main_while0b_call5_v3 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_c_3 : Ref sig .tc := ⟨.hbm, 94, rfl⟩
abbrev main_while0b_call5_v4 : Ref sig .tc := ⟨.hbm, 95, rfl⟩
abbrev main_while0b_v20 : Ref sig .tc := ⟨.hbm, 96, rfl⟩
abbrev main_while0b_cst_25 : Ref sig .tc := ⟨.hbm, 97, rfl⟩
abbrev main_while0b_v21 : Ref sig .tc := ⟨.hbm, 98, rfl⟩
abbrev main_while0b_c_26 : Ref sig .tc := ⟨.hbm, 99, rfl⟩
abbrev main_while0b_v22 : Ref sig .tc := ⟨.hbm, 100, rfl⟩
abbrev main_while0b_v23 : Ref sig .tc := ⟨.hbm, 101, rfl⟩
abbrev main_while0b_c_27 : Ref sig .tc := ⟨.hbm, 102, rfl⟩
abbrev main_while0b_v24 : Ref sig .tc := ⟨.hbm, 103, rfl⟩
abbrev main_while0b_v25 : Ref sig .tc := ⟨.hbm, 104, rfl⟩
abbrev main_while0b_v26 : Ref sig .tc := ⟨.hbm, 105, rfl⟩
abbrev main_while0b_v27 : Ref sig .tc := ⟨.hbm, 106, rfl⟩
abbrev main_while0b_v28 : Ref sig .tc := ⟨.hbm, 107, rfl⟩
abbrev main_while0b_c_28 : Ref sig .tc := ⟨.hbm, 108, rfl⟩
abbrev main_while0b_v29 : Ref sig .tc := ⟨.hbm, 109, rfl⟩
abbrev main_while0b_v30 : Ref sig .tc := ⟨.hbm, 110, rfl⟩
abbrev main_while0b_c_29 : Ref sig .tc := ⟨.hbm, 111, rfl⟩
abbrev main_while0b_v31 : Ref sig .tc := ⟨.hbm, 112, rfl⟩
abbrev main_while0b_v32 : Ref sig .tc := ⟨.hbm, 113, rfl⟩
abbrev main_while0b_v33 : Ref sig .tc := ⟨.hbm, 114, rfl⟩
abbrev main_while0b_v34 : Ref sig .tc := ⟨.hbm, 115, rfl⟩
abbrev main_while0b_v35 : Ref sig .tc := ⟨.hbm, 116, rfl⟩
abbrev main_while0b_v36 : Ref sig .tc := ⟨.hbm, 117, rfl⟩
abbrev main_while0b_v37 : Ref sig .tc := ⟨.hbm, 118, rfl⟩
abbrev main_while0b_v38 : Ref sig .tc := ⟨.hbm, 119, rfl⟩
abbrev main_while0b_v39 : Ref sig .tc := ⟨.hbm, 120, rfl⟩
abbrev main_while0b_v40 : Ref sig .tc := ⟨.hbm, 121, rfl⟩
abbrev main_while0b_call6_cst : Ref sig .tc := ⟨.hbm, 122, rfl⟩
abbrev main_while0b_call6_v0 : Ref sig .tc := ⟨.hbm, 123, rfl⟩
abbrev main_while0b_v41 : Ref sig .tc := ⟨.hbm, 124, rfl⟩
abbrev main_while0b_v42 : Ref sig .tc := ⟨.hbm, 125, rfl⟩
abbrev main_while0b_v43 : Ref sig .tc := ⟨.hbm, 126, rfl⟩
abbrev main_while0b_v44 : Ref sig .tc := ⟨.hbm, 127, rfl⟩
abbrev main_while0b_v45 : Ref sig .tc := ⟨.hbm, 128, rfl⟩
abbrev main_while0b_v46 : Ref sig .tc := ⟨.hbm, 129, rfl⟩
abbrev main_while0b_call7_cst : Ref sig .tc := ⟨.hbm, 130, rfl⟩
abbrev main_while0b_call7_v0 : Ref sig .tc := ⟨.hbm, 131, rfl⟩
abbrev main_while0b_v47 : Ref sig .tc := ⟨.hbm, 132, rfl⟩
abbrev main_while0b_v48 : Ref sig .tc := ⟨.hbm, 133, rfl⟩
abbrev main_while0b_v49 : Ref sig .tc := ⟨.hbm, 134, rfl⟩
abbrev main_while0b_v50 : Ref sig .tc := ⟨.hbm, 135, rfl⟩
abbrev main_while0b_v51 : Ref sig .tc := ⟨.hbm, 136, rfl⟩
abbrev main_while0b_v52 : Ref sig .tc := ⟨.hbm, 137, rfl⟩
abbrev main_while0b_v53 : Ref sig .tc := ⟨.hbm, 138, rfl⟩
abbrev main_while0b_v54 : Ref sig .tc := ⟨.hbm, 139, rfl⟩
abbrev main_while0b_v55 : Ref sig .tc := ⟨.hbm, 140, rfl⟩
abbrev main_while0b_v56 : Ref sig .tc := ⟨.hbm, 141, rfl⟩
abbrev main_while0b_v57 : Ref sig .tc := ⟨.hbm, 142, rfl⟩
abbrev main_while0b_v58 : Ref sig .tc := ⟨.hbm, 143, rfl⟩
abbrev main_while0b_v59 : Ref sig .tc := ⟨.hbm, 144, rfl⟩
abbrev main_while0b_v60 : Ref sig .tc := ⟨.hbm, 145, rfl⟩
abbrev main_while0b_v61 : Ref sig .tc := ⟨.hbm, 146, rfl⟩
abbrev main_while0b_v62 : Ref sig .tc := ⟨.hbm, 147, rfl⟩
abbrev main_while0b_v63 : Ref sig .tc := ⟨.hbm, 148, rfl⟩
abbrev main_while0b_v64 : Ref sig .tc := ⟨.hbm, 149, rfl⟩
abbrev main_while0b_v65 : Ref sig .tc := ⟨.hbm, 150, rfl⟩
abbrev main_while0b_cst_30 : Ref sig .tc := ⟨.hbm, 151, rfl⟩
abbrev main_while0b_v66 : Ref sig .tc := ⟨.hbm, 152, rfl⟩
abbrev main_while0b_v67 : Ref sig .tc := ⟨.hbm, 153, rfl⟩
abbrev main_while0b_cst_31 : Ref sig .tc := ⟨.hbm, 154, rfl⟩
abbrev main_while0b_v68 : Ref sig .tc := ⟨.hbm, 155, rfl⟩
abbrev main_while0b_v69 : Ref sig .tc := ⟨.hbm, 156, rfl⟩
abbrev main_while0b_v70 : Ref sig .tc := ⟨.hbm, 157, rfl⟩
abbrev main_while0b_v71 : Ref sig .tc := ⟨.hbm, 158, rfl⟩
abbrev main_while0b_cst_32 : Ref sig .tc := ⟨.hbm, 159, rfl⟩
abbrev main_while0b_v72 : Ref sig .tc := ⟨.hbm, 160, rfl⟩
abbrev main_while0b_v73 : Ref sig .tc := ⟨.hbm, 161, rfl⟩
abbrev main_while0b_cst_33 : Ref sig .tc := ⟨.hbm, 162, rfl⟩
abbrev main_while0b_v74 : Ref sig .tc := ⟨.hbm, 163, rfl⟩
abbrev main_while0b_v75 : Ref sig .tc := ⟨.hbm, 164, rfl⟩
abbrev main_while0b_v76 : Ref sig .tc := ⟨.hbm, 165, rfl⟩
abbrev main_while0b_v77 : Ref sig .tc := ⟨.hbm, 166, rfl⟩
abbrev main_while0b_v78 : Ref sig .tc := ⟨.hbm, 167, rfl⟩
abbrev main_while0b_cst_34 : Ref sig .tc := ⟨.hbm, 168, rfl⟩
abbrev main_while0b_v79 : Ref sig .tc := ⟨.hbm, 169, rfl⟩
abbrev main_while0b_v80 : Ref sig .tc := ⟨.hbm, 170, rfl⟩
abbrev main_while0b_cst_35 : Ref sig .tc := ⟨.hbm, 171, rfl⟩
abbrev main_while0b_v81 : Ref sig .tc := ⟨.hbm, 172, rfl⟩
abbrev main_while0b_v82 : Ref sig .tc := ⟨.hbm, 173, rfl⟩
abbrev main_while0b_v83 : Ref sig .tc := ⟨.hbm, 174, rfl⟩
abbrev main_while0b_v84 : Ref sig .tc := ⟨.hbm, 175, rfl⟩
abbrev main_while0b_v85 : Ref sig .tc := ⟨.hbm, 176, rfl⟩
abbrev main_while0b_v86 : Ref sig .tc := ⟨.hbm, 177, rfl⟩
abbrev main_while0b_v87 : Ref sig .tc := ⟨.hbm, 178, rfl⟩
abbrev main_while0b_v88 : Ref sig .tc := ⟨.hbm, 179, rfl⟩
abbrev main_while0b_v89 : Ref sig .tc := ⟨.hbm, 180, rfl⟩
abbrev main_while0b_v90 : Ref sig .tc := ⟨.hbm, 181, rfl⟩
abbrev main_while0b_v91 : Ref sig .tc := ⟨.hbm, 182, rfl⟩
abbrev main_while0b_v92 : Ref sig .tc := ⟨.hbm, 183, rfl⟩
abbrev main_while0b_call8_c : Ref sig .tc := ⟨.hbm, 184, rfl⟩
abbrev main_while0b_call8_v0 : Ref sig .tc := ⟨.hbm, 185, rfl⟩
abbrev main_while0b_call8_v1 : Ref sig .tc := ⟨.hbm, 186, rfl⟩
abbrev main_while0b_call8_c_0 : Ref sig .tc := ⟨.hbm, 187, rfl⟩
abbrev main_while0b_call8_v2 : Ref sig .tc := ⟨.hbm, 188, rfl⟩
abbrev main_while0b_call8_v3 : Ref sig .tc := ⟨.hbm, 189, rfl⟩
abbrev main_while0b_call8_c_1 : Ref sig .tc := ⟨.hbm, 190, rfl⟩
abbrev main_while0b_call8_c_2 : Ref sig .tc := ⟨.hbm, 191, rfl⟩
abbrev main_while0b_call8_v4 : Ref sig .tc := ⟨.hbm, 192, rfl⟩
abbrev main_while0b_v93 : Ref sig .tc := ⟨.hbm, 193, rfl⟩
abbrev main_while0b_c_36 : Ref sig .tc := ⟨.hbm, 194, rfl⟩
abbrev main_while0b_v94 : Ref sig .tc := ⟨.hbm, 195, rfl⟩
abbrev main_while0b_v95 : Ref sig .tc := ⟨.hbm, 196, rfl⟩
abbrev main_while0b_c_37 : Ref sig .tc := ⟨.hbm, 197, rfl⟩
abbrev main_while0b_v96 : Ref sig .tc := ⟨.hbm, 198, rfl⟩
abbrev main_while0b_v97 : Ref sig .tc := ⟨.hbm, 199, rfl⟩
abbrev main_while0b_v98 : Ref sig .tc := ⟨.hbm, 200, rfl⟩
abbrev main_while0b_v99 : Ref sig .tc := ⟨.hbm, 201, rfl⟩
abbrev main_while0b_v100 : Ref sig .tc := ⟨.hbm, 202, rfl⟩
abbrev main_while0b_call9_v0 : Ref sig .tc := ⟨.hbm, 203, rfl⟩
abbrev main_while0b_call9_c : Ref sig .tc := ⟨.hbm, 204, rfl⟩
abbrev main_while0b_call9_v1 : Ref sig .tc := ⟨.hbm, 205, rfl⟩
abbrev main_while0b_call9_v2 : Ref sig .tc := ⟨.hbm, 206, rfl⟩
abbrev main_while0b_call9_c_0 : Ref sig .tc := ⟨.hbm, 207, rfl⟩
abbrev main_while0b_call9_v3 : Ref sig .tc := ⟨.hbm, 208, rfl⟩
abbrev main_while0b_call9_v4 : Ref sig .tc := ⟨.hbm, 209, rfl⟩
abbrev main_while0b_call9_c_1 : Ref sig .tc := ⟨.hbm, 210, rfl⟩
abbrev main_while0b_call9_c_2 : Ref sig .tc := ⟨.hbm, 211, rfl⟩
abbrev main_while0b_v101 : Ref sig .tc := ⟨.hbm, 212, rfl⟩
abbrev main_while0b_c_38 : Ref sig .tc := ⟨.hbm, 213, rfl⟩
abbrev main_while0b_v102 : Ref sig .tc := ⟨.hbm, 214, rfl⟩
abbrev main_while0b_v103 : Ref sig .tc := ⟨.hbm, 215, rfl⟩
abbrev main_while0b_c_39 : Ref sig .tc := ⟨.hbm, 216, rfl⟩
abbrev main_while0b_v104 : Ref sig .tc := ⟨.hbm, 217, rfl⟩
abbrev main_while0b_v105 : Ref sig .tc := ⟨.hbm, 218, rfl⟩
abbrev main_while0b_v106 : Ref sig .tc := ⟨.hbm, 219, rfl⟩
abbrev main_while0b_v107 : Ref sig .tc := ⟨.hbm, 220, rfl⟩
abbrev main_while0b_v108 : Ref sig .tc := ⟨.hbm, 221, rfl⟩
abbrev main_while0b_c_40 : Ref sig .tc := ⟨.hbm, 222, rfl⟩
abbrev main_while0b_v109 : Ref sig .tc := ⟨.hbm, 223, rfl⟩
abbrev main_while0b_v110 : Ref sig .tc := ⟨.hbm, 224, rfl⟩
abbrev main_while0b_c_41 : Ref sig .tc := ⟨.hbm, 225, rfl⟩
abbrev main_while0b_v111 : Ref sig .tc := ⟨.hbm, 226, rfl⟩
abbrev main_while0b_v112 : Ref sig .tc := ⟨.hbm, 227, rfl⟩
abbrev main_while0b_v113 : Ref sig .tc := ⟨.hbm, 228, rfl⟩
abbrev main_while0b_v114 : Ref sig .tc := ⟨.hbm, 229, rfl⟩
abbrev main_while0b_v115 : Ref sig .tc := ⟨.hbm, 230, rfl⟩
abbrev main_while0b_c_42 : Ref sig .tc := ⟨.hbm, 231, rfl⟩
abbrev main_while0b_v116 : Ref sig .tc := ⟨.hbm, 232, rfl⟩

abbrev nD : Nat := 1
abbrev τ : Topo := Topo.v7x

variable {F : FTy → Type} [FloatOps F]

abbrev main_while0_count : Scf.Loop 32 := ⟨0#32, 20#32, 1#32⟩
-- ==== Proof.Pre.lean ====
/- What the precondition says of the arguments: every mask entry is one, every hidden and cell entry zero. -/
module

public import proofs.«01_k».proof.Pre_all_active_from_rest
public import Idealize.ShloMosaic.Lib.Pointwise
public import Idealize.ShloMosaic.Lib.IdealHost

@[expose] public section

noncomputable section

namespace Cert.Pre_all_active_from_rest

open Idealize.ShloMosaic Idealize.ShloMosaic.Pointwise

/-- The four side conditions of the precondition's broadcasts. -/
theorem facts : Facts := ⟨by decide, by decide, by decide, by decide⟩

/-- Three bits whose conjunction is one are all one. -/
theorem three_bits : ∀ a b c : Bool, IntOp.andi (BitVec.ofBool a) (IntOp.andi (BitVec.ofBool b) (BitVec.ofBool c)) = 1#1 →
    a = true ∧ b = true ∧ c = true := by
  decide

variable [Facts]

/-- The precondition, entry by entry. -/
theorem entries (a0 : FVec Ideal S20x16384x2 .f32) (a1 : FVec Ideal S20x16384x8 .f32) (a2 : FVec Ideal S16384x128 .f32)
    (a3 : FVec Ideal S16384x128 .f32) (a4 : FVec Ideal S20x16384 .f32) (a5 : FVec Ideal S20x16384x2x24 .f32)
    (a6 : FVec Ideal S64x2 .f32) (a7 : FVec Ideal S64 .f32) (a8 : FVec Ideal S64x24 .f32) (a9 : FVec Ideal S64 .f32)
    (a10 : FVec Ideal S512x128 .f32) (a11 : FVec Ideal S512x128 .f32) (a12 : FVec Ideal S512 .f32) (a13 : FVec Ideal S512 .f32)
    (a14 : FVec Ideal S5x128 .f32) (a15 : FVec Ideal S5 .f32)
    (h : fn (F := Ideal) a0 a1 a2 a3 a4 a5 a6 a7 a8 a9 a10 a11 a12 a13 a14 a15 = fun _ => 1#1)
    (t : Fin 20) (n : Fin 16384) (k : Fin 128) :
    a4 (ix2 t n) = (1 : EReal) ∧ a2 (ix2 n k) = (0 : EReal) ∧ a3 (ix2 n k) = (0 : EReal) := by
  have e := congrFun h (ix3 t n k)
  unfold fn at e
  revert e
  pointwise
  intro e
  obtain ⟨h1, h2, h3⟩ := three_bits _ _ _ e
  exact ⟨of_decide_eq_true h1, of_decide_eq_true h2, of_decide_eq_true h3⟩

end Cert.Pre_all_active_from_rest

end
-- ==== Proof.Rows.lean ====
/- A table of increasing words sorts to itself, and a table of rows set at its own row numbers becomes the updates. -/
module

public import Idealize.ShloMosaic.Lib.Pointwise
public import Idealize.ShloMosaic.Lib.DynamicIndex
public import Idealize.ShloMosaic.Lib.Routing.OpsOne
public import Idealize.ShloMosaic.Lib.SortFacts

@[expose] public section

namespace Cert.Lstm

open Idealize.ShloMosaic Idealize.ShloMosaic.Pointwise Idealize.ShloMosaic.Routing

/-- A list in which no later entry sorts before an earlier one is left as it is by the stable sort. -/
theorem stableSort_self {ι : Type} (before : ι → ι → Bool) (l : List ι) (h : l.Pairwise fun a b => before b a = false) :
    stableSort before l = l := by
  induction l with
  | nil => rfl
  | cons a l ih =>
    rw [List.pairwise_cons] at h
    unfold stableSort
    rw [ih h.2]
    cases l with
    | nil => rfl
    | cons b l =>
      unfold insertBefore
      rw [h.1 b List.mem_cons_self]
      rfl

/-- Where no later position sorts before an earlier one, each position's entry comes from that position. -/
theorem sortedFrom_self {n : Nat} (before : Fin n → Fin n → Bool) (h : ∀ a b : Fin n, a < b → before b a = false) (k : Fin n) :
    sortedFrom before k = k := by
  have hs : sortPositions n before = List.finRange n :=
    stableSort_self before _ ((List.pairwise_lt_finRange n).imp (fun {a b} hab => h a b hab))
  have : ∀ (l : List (Fin n)) (hl : l.length = n), l = List.finRange n → l.get (k.cast hl.symm) = k := by
    rintro l hl rfl
    simp
  exact this _ (length_sortPositions n before) hs

/-- Sorting a vector of words that read, signed, as their own positions leaves it. -/
theorem sort_positions {n : Nat} (cmp : BitVec 32 → BitVec 32 → BitVec 1) (hcmp : ∀ l r, cmp l r = IntOp.cmpi .slt l r) (hn : n < 2 ^ 31)
    (x : IVec (shape1 n) 32) (hx : ∀ k : Fin n, x (ix1 k) = BitVec.ofNat 32 k.val) (k : Fin n) :
    Host.sort (shape1 n) 0 cmp x (ix1 k) = BitVec.ofNat 32 k.val := by
  have al : ∀ (j : (shape1 n).Idx) (h0 : 0 < (shape1 n).rank) (q : Fin n), j.along ⟨0, h0⟩ q = ix1 q := fun j h0 q => by
    funext t
    match t with
    | ⟨0, _⟩ => exact Function.update_self ..
  unfold Host.sort
  rw [dif_pos (show 0 < (shape1 n).rank from Nat.zero_lt_one)]
  refine (congrArg x (al _ _ _)).trans ((hx _).trans (congrArg (fun q : Fin n => BitVec.ofNat 32 q.val) ?_))
  refine sortedFrom_self _ (fun a b hab => ?_) k
  have ha : x ((ix1 k).along ⟨0, Nat.zero_lt_one⟩ a) = BitVec.ofNat 32 a.val := (congrArg x (al _ _ _)).trans (hx a)
  have hb : x ((ix1 k).along ⟨0, Nat.zero_lt_one⟩ b) = BitVec.ofNat 32 b.val := (congrArg x (al _ _ _)).trans (hx b)
  have hab' : a.val < b.val := hab
  show (cmp (x ((ix1 k).along ⟨0, Nat.zero_lt_one⟩ b)) (x ((ix1 k).along ⟨0, Nat.zero_lt_one⟩ a)) == 1#1) = false
  rw [hcmp, ha, hb]
  have : (BitVec.ofNat 32 b.val).slt (BitVec.ofNat 32 a.val) = false := by
    simp only [BitVec.slt, decide_eq_false_iff_not, not_lt]
    rw [Idealize.ShloMosaic.toInt_ofNat_of_lt (by omega), Idealize.ShloMosaic.toInt_ofNat_of_lt (by omega)]
    omega
  show (BitVec.ofBool ((BitVec.ofNat 32 b.val).slt (BitVec.ofNat 32 a.val)) == 1#1) = false
  rw [this]
  rfl

/-- Where a row set at an index word lands: in the word's row, in its own column. -/
theorem lands_row {R C : Nat} (d : ScatterDims (shape2 R C) (shape2 R 1) (shape2 R C))
    (huw : d.updateWindowDims = [1]) (hiw : d.insertedWindowDims = [0])
    (hsd : d.scatterDimsToOperandDims = [0]) (hivd : d.indexVectorDim = 1) (idx : IVec (shape2 R 1) 32)
    (a r : Fin R) (b q : Fin C) :
    d.resultIdx? (ix2 a b) idx = some (ix2 r q) ↔ (idx (ix2 a (0 : Fin 1))).toInt = r.val ∧ b.val = q.val := by
  have hk : d.sKept = [1] := by
    show (shape2 R C).kept d.insertedWindowDims = _
    rw [hiw]
    rfl
  have hwin0 : d.window (ix2 a b) 0 = 0 := by
    unfold ScatterDims.window
    rw [dif_neg (by rw [hk]; simp)]
  have hwin1 : d.window (ix2 a b) 1 = b.val := by
    unfold ScatterDims.window
    rw [dif_pos (by rw [hk]; simp)]
    have : ∀ (x : Fin 2), x = 1 → (ix2 a b x).val = b.val := by rintro _ rfl; rfl
    exact this _ (by simp [hk, huw])
  have hst1 : d.start (ix2 a b) idx 1 = 0 := by
    unfold ScatterDims.start
    rw [dif_neg (by rw [hsd]; simp)]
  have hst0 : d.start (ix2 a b) idx 0 = (idx (ix2 a (0 : Fin 1))).toInt := by
    unfold ScatterDims.start
    rw [dif_pos (by rw [hsd]; simp)]
    refine congrArg (fun t => (idx t).toInt) (funext fun t => ?_)
    match t with
    | ⟨0, h0⟩ =>
      have hus : d.uScatter = [0] := by
        show (shape2 R C).kept d.updateWindowDims = _
        rw [huw]
        rfl
      unfold ScatterDims.siIdx
      rw [dif_neg (by rw [hivd]; exact Nat.zero_ne_one)]
      have : ∀ (x : Fin 2), x = 0 → (ix2 a b x).val = a.val := by rintro _ rfl; rfl
      exact Fin.ext (this _ (by simp [hus]))
    | ⟨1, _⟩ => exact Subsingleton.elim (α := Fin 1) _ _
  refine (resultIdx?_ix2 d _ idx r q).trans ?_
  rw [hst0, hst1, hwin0, hwin1]
  omega

/-- Rows set at their own row numbers: the updates. -/
theorem scatter_rows {α : Type} {R C : Nat} (d : ScatterDims (shape2 R C) (shape2 R 1) (shape2 R C))
    (huw : d.updateWindowDims = [1]) (hiw : d.insertedWindowDims = [0])
    (hsd : d.scatterDimsToOperandDims = [0]) (hivd : d.indexVectorDim = 1) (hR : R < 2 ^ 31) (x : (shape2 R C).Idx → α)
    (idx : IVec (shape2 R 1) 32) (hidx : ∀ a : Fin R, idx (ix2 a (0 : Fin 1)) = BitVec.ofNat 32 a.val)
    (upd : (shape2 R C).Idx → α) :
    Host.scatter d (fun _ b => b) x idx upd = upd := by
  have key := lands_row d huw hiw hsd hivd idx
  have two : ∀ k : (shape2 R C).Idx, ∃ a b, k = ix2 a b := fun k =>
    ⟨k 0, k 1, by funext t; match t with
      | ⟨0, _⟩ => rfl
      | ⟨1, _⟩ => rfl⟩
  have word : ∀ a : Fin R, (idx (ix2 a (0 : Fin 1))).toInt = a.val := fun a => by
    rw [hidx a, Idealize.ShloMosaic.toInt_ofNat_of_lt (by omega)]
  funext ι
  obtain ⟨r, q, rfl⟩ := two ι
  refine scatter_set_hit d x idx upd _ _ (fun k hk => ?_) (ix2 r q) ((key r r q q).2 ⟨word r, rfl⟩)
  obtain ⟨a, b, rfl⟩ := two k
  obtain ⟨h1, h2⟩ := (key a r b q).1 hk
  rw [word a] at h1
  have : a = r := Fin.ext (by omega)
  have : b = q := Fin.ext h2
  subst a b
  rfl

end Cert.Lstm
-- ==== Proof.RefIndex.lean ====
/- One trip of the reference, its index part: at trip `j`, every mask entry one, the rows the trip reads and sets are all
   the rows, in order, and the slabs it reads are slab `j`. -/
module

public import proofs.«01_k».proof.Proof.Gen.ReferenceIdeal.Run
public import proofs.«01_k».proof.Proof.Rows
public import Idealize.ShloMosaic.Lib.IdealHost
public import Idealize.ShloMosaic.Lib.Pipeline.Value
public import Idealize.ShloMosaic.Lib.WordCmp

@[expose] public section

noncomputable section

namespace Cert.ReferenceIdeal.Trip

open Idealize.ShloMosaic Idealize.ShloMosaic.TcCoe Idealize.ShloMosaic.Pointwise
open Cert.ReferenceIdeal Cert.ReferenceIdeal.Gen Cert.ReferenceIdeal.Value Idealize.SL.Sem Cert.Lstm

/-- Two words of numbers below `2 ^ 31`, compared signed. -/
theorem slt_words (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  simp only [BitVec.slt, Idealize.ShloMosaic.toInt_ofNat_of_lt ha, Idealize.ShloMosaic.toInt_ofNat_of_lt hb, Nat.cast_lt]

/-- The contents at the start of trip `j`: the counter holds `j` and every mask entry is one. -/
structure At (V0 : Valuation τ sig (Elt Ideal)) (j : ℕ) : Prop where
  lt : j < 20
  counter : V0 (Proc.devRef .tc main_v1_14) = constantI S_ 32 (BitVec.ofNat 32 j)
  mask : ∀ (t : Fin 20) (n : Fin 16384), V0 (Proc.devRef .tc main_v1_0) (ix2 t n) = (1 : EReal)

variable {V0 : Valuation τ sig (Elt Ideal)} {j : ℕ}

/-- The wrapped counter, read signed, is the trip's number. -/
theorem wrapped (hj : j < 20) (i : S_.Idx) :
    BitVec.toInt (select (cmpi .slt (constantI S_ 32 (BitVec.ofNat 32 j)) (constantI S_ 32 0#32))
      (addi (id (constantI S_ 32 (BitVec.ofNat 32 j))) (constantI S_ 32 20#32)) (constantI S_ 32 (BitVec.ofNat 32 j)) i) = (j : Int) :=
  toInt_wrap_ofNat j (by omega)

/-- Row `j` of the mask is one slab of it. -/
theorem fits_mask (hj : j < 20) : S20x16384.Slices ![j, 0] S1x16384 := by
  refine ⟨rfl, fun a => ?_⟩
  match a with
  | ⟨0, _⟩ => show j + 1 ≤ 20; omega
  | ⟨1, _⟩ => show 0 + 16384 ≤ 16384; omega

/-- The slab of positions at step `j`. -/
theorem fits_pos (hj : j < 20) : S20x16384x2.Slices ![j, 0, 0] S1x16384x2 := by
  refine ⟨rfl, fun a => ?_⟩
  match a with
  | ⟨0, _⟩ => show j + 1 ≤ 20; omega
  | ⟨1, _⟩ => show 0 + 16384 ≤ 16384; omega
  | ⟨2, _⟩ => show 0 + 2 ≤ 2; omega

/-- The slab of surroundings at step `j`. -/
theorem fits_soc (hj : j < 20) : S20x16384x2x24.Slices ![j, 0, 0, 0] S1x16384x2x24 := by
  refine ⟨rfl, fun a => ?_⟩
  match a with
  | ⟨0, _⟩ => show j + 1 ≤ 20; omega
  | ⟨1, _⟩ => show 0 + 16384 ≤ 16384; omega
  | ⟨2, _⟩ => show 0 + 2 ≤ 2; omega
  | ⟨3, _⟩ => show 0 + 24 ≤ 24; omega

/-- The slab of outputs at step `j`. -/
theorem fits_out (hj : j < 20) : S20x16384x5.Slices ![j, 0, 0] S1x16384x5 := by
  refine ⟨rfl, fun a => ?_⟩
  match a with
  | ⟨0, _⟩ => show j + 1 ≤ 20; omega
  | ⟨1, _⟩ => show 0 + 16384 ≤ 16384; omega
  | ⟨2, _⟩ => show 0 + 5 ≤ 5; omega

/-- The mask's slice is its row `j`. -/
theorem slice_mask (h : At V0 j) :
    Host.dynamicSlice S1x16384 (V0 (Proc.devRef .tc main_v1_0)) (fun k => (((![select (cmpi .slt (V0 (Proc.devRef .tc main_v1_14)) (constantI S_ 32 0#32)) (addi (id (V0 (Proc.devRef .tc main_v1_14))) (constantI S_ 32 20#32)) (V0 (Proc.devRef .tc main_v1_14)), constantI S_ 32 0#32] : Fin 2 → (⟨S_, .i32⟩ : BufTy).Contents (Elt Ideal))) k (Shape.Idx.first h_S_)).toInt) sliceFits_S20x16384_S1x16384
      = extractStridedSlice S1x16384 ![j, 0] (V0 (Proc.devRef .tc main_v1_0)) (fits_mask h.lt) := by
  rw [h.counter]
  refine WordCmp.dynamicSlice_eq_extract _ _ _ _ _ _ fun a => ?_
  match a with
  | ⟨0, _⟩ => exact wrapped h.lt _
  | ⟨1, _⟩ => rfl

/-- The positions' slice is their slab `j`. -/
theorem slice_pos (h : At V0 j) :
    Host.dynamicSlice S1x16384x2 (V0 (Proc.devRef .tc main_v1_1)) (fun k => (((![select (cmpi .slt (V0 (Proc.devRef .tc main_v1_14)) (constantI S_ 32 0#32)) (addi (id (V0 (Proc.devRef .tc main_v1_14))) (constantI S_ 32 20#32)) (V0 (Proc.devRef .tc main_v1_14)), constantI S_ 32 0#32, constantI S_ 32 0#32] : Fin 3 → (⟨S_, .i32⟩ : BufTy).Contents (Elt Ideal))) k (Shape.Idx.first h_S_)).toInt) sliceFits_S20x16384x2_S1x16384x2
      = extractStridedSlice S1x16384x2 ![j, 0, 0] (V0 (Proc.devRef .tc main_v1_1)) (fits_pos h.lt) := by
  rw [h.counter]
  refine WordCmp.dynamicSlice_eq_extract _ _ _ _ _ _ fun a => ?_
  match a with
  | ⟨0, _⟩ => exact wrapped h.lt _
  | ⟨1, _⟩ => rfl
  | ⟨2, _⟩ => rfl

/-- The surroundings' slice is their slab `j`. -/
theorem slice_soc (h : At V0 j) :
    Host.dynamicSlice S1x16384x2x24 (V0 (Proc.devRef .tc main_v1_2)) (fun k => (((![select (cmpi .slt (V0 (Proc.devRef .tc main_v1_14)) (constantI S_ 32 0#32)) (addi (id (V0 (Proc.devRef .tc main_v1_14))) (constantI S_ 32 20#32)) (V0 (Proc.devRef .tc main_v1_14)), constantI S_ 32 0#32, constantI S_ 32 0#32, constantI S_ 32 0#32] : Fin 4 → (⟨S_, .i32⟩ : BufTy).Contents (Elt Ideal))) k (Shape.Idx.first h_S_)).toInt) sliceFits_S20x16384x2x24_S1x16384x2x24
      = extractStridedSlice S1x16384x2x24 ![j, 0, 0, 0] (V0 (Proc.devRef .tc main_v1_2)) (fits_soc h.lt) := by
  rw [h.counter]
  refine WordCmp.dynamicSlice_eq_extract _ _ _ _ _ _ fun a => ?_
  match a with
  | ⟨0, _⟩ => exact wrapped h.lt _
  | ⟨1, _⟩ => rfl
  | ⟨2, _⟩ => rfl
  | ⟨3, _⟩ => rfl

/-- Writing one slab of the outputs writes slab `j`. -/
theorem update_out (h : At V0 j) (u : (⟨S1x16384x5, .f32⟩ : BufTy).Contents (Elt Ideal)) :
    Host.dynamicUpdateSlice (V0 (Proc.devRef .tc main_v1_15)) u (fun k => (((![select (cmpi .slt (V0 (Proc.devRef .tc main_v1_14)) (constantI S_ 32 0#32)) (addi (id (V0 (Proc.devRef .tc main_v1_14))) (constantI S_ 32 20#32)) (V0 (Proc.devRef .tc main_v1_14)), constantI S_ 32 0#32, constantI S_ 32 0#32] : Fin 3 → (⟨S_, .i32⟩ : BufTy).Contents (Elt Ideal))) k (Shape.Idx.first h_S_)).toInt) updateFits_S20x16384x5_S1x16384x5
      = updateSlice (V0 (Proc.devRef .tc main_v1_15)) u ![j, 0, 0] (fits_out h.lt) := by
  rw [h.counter]
  refine WordCmp.dynamicUpdateSlice_eq_update _ u _ _ _ _ fun a => ?_
  match a with
  | ⟨0, _⟩ => exact wrapped h.lt _
  | ⟨1, _⟩ => rfl
  | ⟨2, _⟩ => rfl

/-- The words of the row numbers, in order. -/
def rows : IVec S16384x1 32 := fun i => BitVec.ofNat 32 (i 0).val

/-- Every mask entry is one, so the sorted table of active rows is the table of all rows. -/
theorem sorted_apply (h : At V0 j) (n : Fin 16384) : res_main_while0b_v8 V0 (ix1 n) = BitVec.ofNat 32 n.val := by
  unfold res_main_while0b_v8
  refine sort_positions (n := 16384) comparator_i32_d0 (fun _ _ => rfl) (by norm_num) _ (fun k => ?_) n
  rw [slice_mask h]
  pointwise
  exact if_pos (h.mask _ k)

/-- A row number that is below the number of rows is kept. -/
theorem active_apply (h : At V0 j) (n : Fin 16384) : res_main_while0b_v11 V0 (ix1 n) = BitVec.ofNat 32 n.val := by
  have hn := n.isLt
  pointwise [res_main_while0b_v11]
  rw [sorted_apply h, slt_words _ _ (by omega) (by norm_num), decide_eq_true hn]
  rfl

/-- The index table the rows are read and set by is the table of the row numbers. -/
theorem order_eq (h : At V0 j) :
    broadcastInDim S16384x1 ![0] bcast_S16384_S16384x1_0 (select (cmpi .slt (res_main_while0b_v11 V0) (broadcastInDim S16384 ![] bcast_S_S16384 (constantI S_ 32 0#32))) (addi (res_main_while0b_v11 V0) (broadcastInDim S16384 ![] bcast_S_S16384 (constantI S_ 32 16384#32))) (res_main_while0b_v11 V0))
      = rows := by
  funext i
  obtain ⟨n, z, rfl⟩ : ∃ (n : Fin 16384) (z : Fin 1), i = ix2 n z := ⟨i 0, i 1, by
    funext t
    match t with
    | ⟨0, _⟩ => rfl
    | ⟨1, _⟩ => rfl⟩
  have hn := n.isLt
  pointwise
  rw [active_apply h, slt_words _ 0 (by omega) (by norm_num), decide_eq_false (Nat.not_lt_zero _)]
  rfl

/-- Reading the positions at the row numbers leaves them. -/
theorem gather_pos (x : (⟨S16384x2, .f32⟩ : BufTy).Contents (Elt Ideal)) :
    Host.gather gather_S16384x2_S16384x1_S16384x2_1_0_n_n_0_1_12 x rows = x := by
  funext i
  obtain ⟨n, q, rfl⟩ : ∃ (n : Fin 16384) (q : Fin 2), i = ix2 n q := ⟨i 0, i 1, by
    funext t
    match t with
    | ⟨0, _⟩ => rfl
    | ⟨1, _⟩ => rfl⟩
  exact Routing.gather_row _ rfl rfl rfl rfl rfl x rows n q n rfl (by norm_num)

/-- Reading a table of states at the row numbers leaves it. -/
theorem gather_state (x : (⟨S16384x128, .f32⟩ : BufTy).Contents (Elt Ideal)) :
    Host.gather gather_S16384x128_S16384x1_S16384x128_1_0_n_n_0_1_1128 x rows = x := by
  funext i
  obtain ⟨n, q, rfl⟩ : ∃ (n : Fin 16384) (q : Fin 128), i = ix2 n q := ⟨i 0, i 1, by
    funext t
    match t with
    | ⟨0, _⟩ => rfl
    | ⟨1, _⟩ => rfl⟩
  exact Routing.gather_row _ rfl rfl rfl rfl rfl x rows n q n rfl (by norm_num)

/-- Setting a table of states at the row numbers gives the updates. -/
theorem set_state {α : Type} (x u : S16384x128.Idx → α) :
    Host.scatter scatter_S16384x128_S16384x1_S16384x128_1_0_0_1 (fun _ b => b) x rows u = u :=
  scatter_rows _ rfl rfl rfl rfl (by norm_num) x rows (fun _ => rfl) u

/-- Setting a slab of outputs at the row numbers gives the updates. -/
theorem set_out {α : Type} (x u : S16384x5.Idx → α) :
    Host.scatter scatter_S16384x5_S16384x1_S16384x5_1_0_0_1 (fun _ b => b) x rows u = u :=
  scatter_rows _ rfl rfl rfl rfl (by norm_num) x rows (fun _ => rfl) u

end Cert.ReferenceIdeal.Trip

end
-- ==== Proof.Spec.lean ====
/- The mathematics both programs compute, one node at a time, over the extended reals: the embedding of a node's
   position and of its surroundings, one LSTM step, the output layer, and the recursion over the time steps from the
   zero state. -/
module

public import Idealize.ShloMosaic.Lib.Pointwise
public import Idealize.ShloMosaic.Lib.IdealHost

@[expose] public section

noncomputable section

namespace Cert.Lstm

open Idealize.ShloMosaic
open scoped BigOperators

/-- The weights and biases, as tables of extended reals. -/
structure Weights where
  Win : Fin 64 → Fin 2 → EReal
  bin : Fin 64 → EReal
  Wt : Fin 64 → Fin 24 → EReal
  bt : Fin 64 → EReal
  Wih : Fin 512 → Fin 128 → EReal
  Whh : Fin 512 → Fin 128 → EReal
  bih : Fin 512 → EReal
  bhh : Fin 512 → EReal
  Wout : Fin 5 → Fin 128 → EReal
  bout : Fin 5 → EReal

/-- What one node is shown at one time step: its position, and two rows of 24 surroundings. -/
structure Input where
  pos : Fin 2 → EReal
  soc : Fin 2 → Fin 24 → EReal

/-- A node's hidden and cell vectors. -/
structure State where
  h : Fin 128 → EReal
  c : Fin 128 → EReal

/-- The position's embedding: an affine map, then the positive part. -/
def posEmb (W : Weights) (x : Input) (k : Fin 64) : EReal :=
  max (∑ i : Fin 2, x.pos i * W.Win k i + W.bin k) 0

/-- The surroundings' embedding: the entrywise larger of the two rows, an affine map, the positive part. -/
def socEmb (W : Weights) (x : Input) (k : Fin 64) : EReal :=
  max (∑ i : Fin 24, max (x.soc 0 i) (x.soc 1 i) * W.Wt k i + W.bt k) 0

/-- The two embeddings side by side. -/
def emb (W : Weights) (x : Input) (k : Fin 128) : EReal :=
  if hk : k.val < 64 then posEmb W x ⟨k.val, hk⟩ else socEmb W x ⟨k.val - 64, by omega⟩

/-- The four gates' arguments, 128 entries each: input, forget, candidate, output. -/
def gate (W : Weights) (x : Input) (s : State) (q : Fin 512) : EReal :=
  ∑ k : Fin 128, emb W x k * W.Wih q k + W.bih q + ∑ k : Fin 128, s.h k * W.Whh q k + W.bhh q

/-- The next cell vector: the forget gate times the old one plus the input gate times the candidate. -/
def nextC (W : Weights) (x : Input) (s : State) (k : Fin 128) : EReal :=
  Ideal.logistic (gate W x s ⟨128 + k.val, by omega⟩) * s.c k
    + Ideal.logistic (gate W x s ⟨k.val, by omega⟩) * Ideal.tanh (gate W x s ⟨256 + k.val, by omega⟩)

/-- The next hidden vector: the output gate times the hyperbolic tangent of the next cell vector. -/
def nextH (W : Weights) (x : Input) (s : State) (k : Fin 128) : EReal :=
  Ideal.logistic (gate W x s ⟨384 + k.val, by omega⟩) * Ideal.tanh (nextC W x s k)

/-- One LSTM step. -/
def next (W : Weights) (x : Input) (s : State) : State := ⟨nextH W x s, nextC W x s⟩

/-- The output layer on a hidden vector. -/
def outRow (W : Weights) (h : Fin 128 → EReal) (q : Fin 5) : EReal :=
  ∑ k : Fin 128, h k * W.Wout q k + W.bout q

/-- The state after `n` steps from the zero state, step `t` being shown `x t`. -/
def states (W : Weights) (x : ℕ → Input) : ℕ → State
  | 0 => ⟨fun _ => 0, fun _ => 0⟩
  | n + 1 => next W (x n) (states W x n)

/-! ## The logistic function by the hyperbolic tangent -/

/-- The word of one half. -/
theorem ofBits_half : Ideal.ofBits .f32 0x3F000000#32 = ((1 / 2 : ℝ) : EReal) := by
  simp [Ideal.ofBits, Ideal.ieee]
  rw [← EReal.coe_mul]
  norm_num

/-- On the reals, `1 / (1 + e⁻ˣ)` is half the hyperbolic tangent of half of `x`, plus one half. -/
theorem logistic_real (r : ℝ) : (1 + Real.exp (-r))⁻¹ = 1 / 2 * Real.tanh (1 / 2 * r) + 1 / 2 := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, h1]
  generalize Real.exp (1 / 2 * r) = a at *
  generalize Real.exp (-(1 / 2 * r)) = b at *
  have ha : a = b⁻¹ := eq_inv_of_mul_eq_one_left h2
  subst ha
  field_simp
  ring

/-- On the extended reals, infinities included, the logistic function is half the hyperbolic tangent of half the
    argument, plus one half. -/
theorem logistic_eq_tanh (x : EReal) :
    Ideal.logistic x = ((1 / 2 : ℝ) : EReal) * Ideal.tanh (((1 / 2 : ℝ) : EReal) * x) + ((1 / 2 : ℝ) : EReal) := by
  induction x with
  | bot =>
    rw [EReal.coe_mul_bot_of_pos (by norm_num), Ideal.logistic_bot, Ideal.tanh_bot, show (-1 : EReal) = ((-1 : ℝ) : EReal) from rfl,
      ← EReal.coe_mul, ← EReal.coe_add]
    norm_num
  | coe r =>
    rw [← EReal.coe_mul, Ideal.logistic_coe, Ideal.tanh_coe, ← EReal.coe_mul, ← EReal.coe_add, logistic_real]
  | top =>
    rw [EReal.coe_mul_top_of_pos (by norm_num), Ideal.logistic_top, Ideal.tanh_top, show (1 : EReal) = ((1 : ℝ) : EReal) from rfl,
      ← EReal.coe_mul, ← EReal.coe_add]
    norm_num

/-! ## Sums over the extended reals -/

/-- A nonnegative real factor goes into a sum. -/
theorem mul_sum_of_nonneg {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum over `m + n` terms is the sum of the first `m` plus the sum of the other `n`. -/
theorem sum_split (m n : ℕ) (f : Fin (m + n) → EReal) :
    ∑ k : Fin (m + n), f k = ∑ k : Fin m, f (Fin.castAdd n k) + ∑ k : Fin n, f (Fin.natAdd m k) :=
  Fin.sum_univ_add f

end Cert.Lstm

end
-- ==== Proof.RefGate.lean ====
/- One trip of the reference, its gates: from contents at the start of trip `j`, the four gates' arguments of every node
   are the LSTM step's on slab `j` of the inputs. -/
module

public import proofs.«01_k».proof.Proof.RefIndex
public import proofs.«01_k».proof.Proof.Spec

@[expose] public section

noncomputable section

namespace Cert.ReferenceIdeal.Trip

open Idealize.ShloMosaic Idealize.ShloMosaic.TcCoe Idealize.ShloMosaic.Pointwise
open Cert.ReferenceIdeal Cert.ReferenceIdeal.Gen Cert.ReferenceIdeal.Value Idealize.SL.Sem Cert.Lstm
open scoped BigOperators

/-- The weights the loop carries. -/
def weightsAt (V0 : Valuation τ sig (Elt Ideal)) : Weights where
  Win k i := V0 (Proc.devRef .tc main_v1_3) (ix2 k i)
  bin k := V0 (Proc.devRef .tc main_v1_4) (ix1 k)
  Wt k i := V0 (Proc.devRef .tc main_v1_5) (ix2 k i)
  bt k := V0 (Proc.devRef .tc main_v1_6) (ix1 k)
  Wih q k := V0 (Proc.devRef .tc main_v1_7) (ix2 q k)
  bih q := V0 (Proc.devRef .tc main_v1_8) (ix1 q)
  Whh q k := V0 (Proc.devRef .tc main_v1_9) (ix2 q k)
  bhh q := V0 (Proc.devRef .tc main_v1_10) (ix1 q)
  Wout q k := V0 (Proc.devRef .tc main_v1_11) (ix2 q k)
  bout q := V0 (Proc.devRef .tc main_v1_12) (ix1 q)

/-- What node `n` is shown at step `t`. -/
def shownAt (V0 : Valuation τ sig (Elt Ideal)) (n : Fin 16384) (t : ℕ) : Input where
  pos i := V0 (Proc.devRef .tc main_v1_1) (ix3 ⟨t % 20, Nat.mod_lt _ (by norm_num)⟩ n i)
  soc a i := V0 (Proc.devRef .tc main_v1_2) (ix4 ⟨t % 20, Nat.mod_lt _ (by norm_num)⟩ n a i)

/-- Node `n`'s state. -/
def stateAt (V0 : Valuation τ sig (Elt Ideal)) (n : Fin 16384) : State where
  h k := V0 (Proc.devRef .tc main_v1_16) (ix2 n k)
  c k := V0 (Proc.devRef .tc main_v1_17) (ix2 n k)

variable {V0 : Valuation τ sig (Elt Ideal)} {j : ℕ}

/-- The larger of two entries, folded from minus infinity. -/
theorem fold_two (f : Fin 2 → EReal) :
    Finset.fold max (Ideal.ofBits .f32 0xFF800000#32) f Finset.univ = max (f 0) (f 1) := by
  have hb : Ideal.ofBits .f32 0xFF800000#32 = ⊥ := by
    simp [Ideal.ofBits, Ideal.ieee]
  rw [hb, show (Finset.univ : Finset (Fin 2)) = {0, 1} from rfl, Finset.fold_insert (by decide), Finset.fold_singleton, max_bot_right]

/-- The first half of the embedding is the position's. -/
theorem emb_left (W : Weights) (x : Input) (k : Fin 64) : emb W x (Fin.castAdd 64 k) = posEmb W x k :=
  dif_pos k.isLt

/-- The second half of the embedding is the surroundings'. -/
theorem emb_right (W : Weights) (x : Input) (k : Fin 64) : emb W x (Fin.natAdd 64 k) = socEmb W x k := by
  unfold emb
  rw [dif_neg (show ¬ (Fin.natAdd 64 k).val < 64 from Nat.not_lt.2 (Nat.le_add_right 64 k.val))]
  exact congrArg (socEmb W x) (Fin.ext (Nat.add_sub_cancel_left (n := 64) (m := k.val)))

set_option maxRecDepth 8192 in
/-- The gates' arguments. -/
theorem gate_apply (h : At V0 j) (n : Fin 16384) (q : Fin 512) :
    res_main_while0b_v59 V0 (ix2 n q) = gate (weightsAt V0) (shownAt V0 n j) (stateAt V0 n) q := by
  have hj : (⟨j, h.lt⟩ : Fin 20) = ⟨j % 20, Nat.mod_lt _ (by norm_num)⟩ := Fin.ext (Nat.mod_eq_of_lt h.lt).symm
  unfold res_main_while0b_v59
  rw [order_eq h, slice_pos h, slice_soc h, gather_pos, gather_state]
  pointwise
  simp only [fold_two, hj]
  have e := sum_split 64 64 (fun k => emb (weightsAt V0) (shownAt V0 n j) k * (weightsAt V0).Wih q k)
  simp only [emb_left, emb_right] at e
  unfold gate
  rw [show (∑ k : Fin 128, emb (weightsAt V0) (shownAt V0 n j) k * (weightsAt V0).Wih q k) = _ from e]
  rfl

end Cert.ReferenceIdeal.Trip

end
-- ==== Proof.RefStep.lean ====
/- One trip of the reference, its values: from contents at the start of trip `j`, every node makes one LSTM step on slab
   `j` of the inputs, and slab `j` of the outputs takes the output layer of the new hidden vectors. -/
module

public import proofs.«01_k».proof.Proof.RefGate

@[expose] public section

noncomputable section

namespace Cert.ReferenceIdeal.Trip

open Idealize.ShloMosaic Idealize.ShloMosaic.TcCoe Idealize.ShloMosaic.Pointwise
open Cert.ReferenceIdeal Cert.ReferenceIdeal.Gen Cert.ReferenceIdeal.Value Idealize.SL.Sem Cert.Lstm
open scoped BigOperators

variable {V0 : Valuation τ sig (Elt Ideal)} {j : ℕ}

set_option maxRecDepth 8192 in
/-- The new cell vectors. -/
theorem cell_apply (h : At V0 j) (n : Fin 16384) (k : Fin 128) :
    res_main_while0b_v85 V0 (ix2 n k) = nextC (weightsAt V0) (shownAt V0 n j) (stateAt V0 n) k := by
  unfold res_main_while0b_v85
  rw [order_eq h, gather_state]
  pointwise
  rw [gate_apply h, gate_apply h, gate_apply h]
  rfl

set_option maxRecDepth 8192 in
/-- The new hidden vectors. -/
theorem hidden_apply (h : At V0 j) (n : Fin 16384) (k : Fin 128) :
    res_main_while0b_v87 V0 (ix2 n k) = nextH (weightsAt V0) (shownAt V0 n j) (stateAt V0 n) k := by
  unfold res_main_while0b_v87
  pointwise
  rw [gate_apply h, cell_apply h]
  rfl

/-- After the trip, the hidden table holds the new hidden vectors. -/
theorem step_hidden (h : At V0 j) (n : Fin 16384) (k : Fin 128) :
    STEP V0 (Proc.devRef .tc main_v1_16) (ix2 n k) = nextH (weightsAt V0) (shownAt V0 n j) (stateAt V0 n) k := by
  rw [STEP_main_v1_16]
  unfold step_main_v1_16
  rw [order_eq h, set_state, id_eq]
  exact hidden_apply h n k

/-- After the trip, the cell table holds the new cell vectors. -/
theorem step_cell (h : At V0 j) (n : Fin 16384) (k : Fin 128) :
    STEP V0 (Proc.devRef .tc main_v1_17) (ix2 n k) = nextC (weightsAt V0) (shownAt V0 n j) (stateAt V0 n) k := by
  rw [STEP_main_v1_17]
  unfold step_main_v1_17
  rw [order_eq h, set_state, id_eq]
  exact cell_apply h n k

/-- A node's state, from its two rows. -/
theorem stateAt_eq (V : Valuation τ sig (Elt Ideal)) (n : Fin 16384) :
    stateAt V n = ⟨fun k => V (Proc.devRef .tc main_v1_16) (ix2 n k), fun k => V (Proc.devRef .tc main_v1_17) (ix2 n k)⟩ := rfl

/-- After the trip, every node's state is one step further. -/
theorem step_state (h : At V0 j) (n : Fin 16384) :
    stateAt (STEP V0) n = next (weightsAt V0) (shownAt V0 n j) (stateAt V0 n) := by
  rw [stateAt_eq, funext (step_hidden h n), funext (step_cell h n)]
  rfl

set_option maxRecDepth 8192 in
/-- After the trip, slab `j` of the outputs is the output layer of the new hidden vectors; the other slabs are as before. -/
theorem step_out (h : At V0 j) (s : Fin 20) (n : Fin 16384) (q : Fin 5) :
    STEP V0 (Proc.devRef .tc main_v1_15) (ix3 s n q)
      = if s.val = j then outRow (weightsAt V0) (stateAt (STEP V0) n).h q else V0 (Proc.devRef .tc main_v1_15) (ix3 s n q) := by
  have hh : (stateAt (STEP V0) n).h = nextH (weightsAt V0) (shownAt V0 n j) (stateAt V0 n) := by
    rw [step_state h]
    rfl
  rw [hh, STEP_main_v1_15]
  unfold step_main_v1_15
  rw [order_eq h, set_out, update_out h, id_eq]
  pointwise
  simp only [hidden_apply h]
  by_cases hs : s.val = j
  · rw [if_pos hs]
    refine (dif_pos fun a => ?_).trans rfl
    match a with
    | ⟨0, _⟩ => exact ⟨hs.ge, show s.val < j + 1 by omega⟩
    | ⟨1, _⟩ => exact ⟨Nat.zero_le _, show n.val < 0 + 16384 by omega⟩
    | ⟨2, _⟩ => exact ⟨Nat.zero_le _, show q.val < 0 + 5 by omega⟩
  · rw [if_neg hs]
    refine dif_neg fun hall => hs ?_
    have h0 : j ≤ s.val ∧ s.val < j + 1 := hall ⟨0, Nat.zero_lt_succ 2⟩
    omega

/-- After the trip, the counter is one further. -/
theorem step_counter (h : At V0 j) : STEP V0 (Proc.devRef .tc main_v1_14) = constantI S_ 32 (BitVec.ofNat 32 (j + 1)) := by
  rw [STEP_main_v1_14]
  unfold step_main_v1_14
  rw [h.counter]
  funext i
  show BitVec.ofNat 32 j + 1#32 = _
  rw [BitVec.ofNat_add]
  rfl

end Cert.ReferenceIdeal.Trip

end
-- ==== Proof.RefResult.lean ====
/- The reference's loop, from the zero state with every mask entry one: after `k` trips every node holds the state of `k`
   LSTM steps, and the first `k` slabs of the outputs hold the output layer of the states after each step. -/
module

public import proofs.«01_k».proof.Proof.RefStep

@[expose] public section

noncomputable section

namespace Cert.ReferenceIdeal.Trip

open Idealize.ShloMosaic Idealize.ShloMosaic.TcCoe Idealize.ShloMosaic.Pointwise
open Cert.ReferenceIdeal Cert.ReferenceIdeal.Gen Cert.ReferenceIdeal.Value Idealize.SL.Sem Cert.Lstm

/-- The weights are carried unchanged. -/
theorem weightsAt_step (V : Valuation τ sig (Elt Ideal)) : weightsAt (STEP V) = weightsAt V := by
  unfold weightsAt
  rw [STEP_main_v1_3, STEP_main_v1_4, STEP_main_v1_5, STEP_main_v1_6, STEP_main_v1_7, STEP_main_v1_8, STEP_main_v1_9,
    STEP_main_v1_10, STEP_main_v1_11, STEP_main_v1_12]

/-- The inputs are carried unchanged. -/
theorem shownAt_step (V : Valuation τ sig (Elt Ideal)) (n : Fin 16384) : shownAt (STEP V) n = shownAt V n := by
  funext t
  unfold shownAt
  rw [STEP_main_v1_1, STEP_main_v1_2]

/-- What holds after `k` trips from the contents `V`. -/
structure After (V : Valuation τ sig (Elt Ideal)) (k : ℕ) (U : Valuation τ sig (Elt Ideal)) : Prop where
  counter : U (Proc.devRef .tc main_v1_14) = constantI S_ 32 (BitVec.ofNat 32 k)
  mask : ∀ (t : Fin 20) (n : Fin 16384), U (Proc.devRef .tc main_v1_0) (ix2 t n) = (1 : EReal)
  weights : weightsAt U = weightsAt V
  shown : ∀ n, shownAt U n = shownAt V n
  state : ∀ n, stateAt U n = states (weightsAt V) (shownAt V n) k
  out : ∀ (s : Fin 20) (n : Fin 16384) (q : Fin 5), s.val < k →
    U (Proc.devRef .tc main_v1_15) (ix3 s n q) = outRow (weightsAt V) (states (weightsAt V) (shownAt V n) (s.val + 1)).h q

/-- One more trip. -/
theorem After.succ {V U : Valuation τ sig (Elt Ideal)} {k : ℕ} (hk : k < 20) (h : After V k U) : After V (k + 1) (STEP U) := by
  have ht : At U k := ⟨hk, h.counter, h.mask⟩
  have hs : ∀ n, stateAt (STEP U) n = states (weightsAt V) (shownAt V n) (k + 1) := fun n => by
    rw [step_state ht n, h.weights, h.shown n, h.state n]
    rfl
  refine ⟨step_counter ht, fun t n => ?_, (weightsAt_step U).trans h.weights, fun n => (shownAt_step U n).trans (h.shown n), hs, fun s n q hsk => ?_⟩
  · rw [STEP_main_v1_0]
    exact h.mask t n
  · rw [step_out ht s n q]
    by_cases e : s.val = k
    · rw [if_pos e, hs n, h.weights, e]
    · rw [if_neg e]
      exact h.out s n q (by omega)

/-- All the trips, by induction. -/
theorem after_iterate {V : Valuation τ sig (Elt Ideal)} (h : After V 0 V) (k : ℕ) (hk : k ≤ 20) : After V k (STEP^[k] V) := by
  induction k with
  | zero => exact h
  | succ k ih =>
    rw [Function.iterate_succ_apply']
    exact (ih (by omega)).succ (by omega)

end Cert.ReferenceIdeal.Trip

end
-- ==== Proof.RefEntry.lean ====
/- What the reference's loop starts from: each carried buffer is an argument, the counter is zero. -/
module

public import proofs.«01_k».proof.Proof.RefResult
public import Idealize.ShloMosaic.Lib.StableHlo.ReadAt

@[expose] public section

set_option maxRecDepth 65536

noncomputable section

namespace Cert.ReferenceIdeal.Trip

open Idealize.ShloMosaic Idealize.ShloMosaic.TcCoe Idealize.ShloMosaic.Pointwise Idealize.ShloMosaic.StableHlo
open Cert.ReferenceIdeal Cert.ReferenceIdeal.Gen Cert.ReferenceIdeal.Value Idealize.SL.Sem Cert.Lstm

variable (m : (ℓ : Loc nD τ sig) → Buf (Elt Ideal) ℓ) (c : Dev nD)

/-- The contents the loop starts from. -/
abbrev entry : Valuation τ sig (Elt Ideal) := entryContents preI m c

/-- The loop starts from the mask as given. -/
theorem entry_0 : entry m c (Proc.devRef .tc main_v1_0) = m (c, Proc.devRef .tc main_arg4) := by
  simp only [entryContents, afterL_cons, afterL_nil]
  after_reads_simp
  rfl

/-- The loop starts from the positions as given. -/
theorem entry_1 : entry m c (Proc.devRef .tc main_v1_1) = m (c, Proc.devRef .tc main_arg0) := by
  simp only [entryContents, afterL_cons, afterL_nil]
  after_reads_simp
  rfl

/-- The loop starts from the surroundings as given. -/
theorem entry_2 : entry m c (Proc.devRef .tc main_v1_2) = m (c, Proc.devRef .tc main_arg5) := by
  simp only [entryContents, afterL_cons, afterL_nil]
  after_reads_simp
  rfl

/-- The loop starts from the position's weights as given. -/
theorem entry_3 : entry m c (Proc.devRef .tc main_v1_3) = m (c, Proc.devRef .tc main_arg6) := by
  simp only [entryContents, afterL_cons, afterL_nil]
  after_reads_simp
  rfl

/-- The loop starts from the position's bias as given. -/
theorem entry_4 : entry m c (Proc.devRef .tc main_v1_4) = m (c, Proc.devRef .tc main_arg7) := by
  simp only [entryContents, afterL_cons, afterL_nil]
  after_reads_simp
  rfl

/-- The loop starts from the surroundings' weights as given. -/
theorem entry_5 : entry m c (Proc.devRef .tc main_v1_5) = m (c, Proc.devRef .tc main_arg8) := by
  simp only [entryContents, afterL_cons, afterL_nil]
  after_reads_simp
  rfl

/-- The loop starts from the surroundings' bias as given. -/
theorem entry_6 : entry m c (Proc.devRef .tc main_v1_6) = m (c, Proc.devRef .tc main_arg9) := by
  simp only [entryContents, afterL_cons, afterL_nil]
  after_reads_simp
  rfl

/-- The loop starts from the gates' input weights as given. -/
theorem entry_7 : entry m c (Proc.devRef .tc main_v1_7) = m (c, Proc.devRef .tc main_arg10) := by
  simp only [entryContents, afterL_cons, afterL_nil]
  after_reads_simp
  rfl

/-- The loop starts from the gates' input bias as given. -/
theorem entry_8 : entry m c (Proc.devRef .tc main_v1_8) = m (c, Proc.devRef .tc main_arg12) := by
  simp only [entryContents, afterL_cons, afterL_nil]
  after_reads_simp
  rfl

/-- The loop starts from the gates' hidden weights as given. -/
theorem entry_9 : entry m c (Proc.devRef .tc main_v1_9) = m (c, Proc.devRef .tc main_arg11) := by
  simp only [entryContents, afterL_cons, afterL_nil]
  after_reads_simp
  rfl

/-- The loop starts from the gates' hidden bias as given. -/
theorem entry_10 : entry m c (Proc.devRef .tc main_v1_10) = m (c, Proc.devRef .tc main_arg13) := by
  simp only [entryContents, afterL_cons, afterL_nil]
  after_reads_simp
  rfl

/-- The loop starts from the output weights as given. -/
theorem entry_11 : entry m c (Proc.devRef .tc main_v1_11) = m (c, Proc.devRef .tc main_arg14) := by
  simp only [entryContents, afterL_cons, afterL_nil]
  after_reads_simp
  rfl

/-- The loop starts from the output bias as given. -/
theorem entry_12 : entry m c (Proc.devRef .tc main_v1_12) = m (c, Proc.devRef .tc main_arg15) := by
  simp only [entryContents, afterL_cons, afterL_nil]
  after_reads_simp
  rfl

/-- The loop starts from the hidden table as given. -/
theorem entry_16 : entry m c (Proc.devRef .tc main_v1_16) = m (c, Proc.devRef .tc main_arg2) := by
  simp only [entryContents, afterL_cons, afterL_nil]
  after_reads_simp
  rfl

/-- The loop starts from the cell table as given. -/
theorem entry_17 : entry m c (Proc.devRef .tc main_v1_17) = m (c, Proc.devRef .tc main_arg3) := by
  simp only [entryContents, afterL_cons, afterL_nil]
  after_reads_simp
  rfl

/-- The loop's counter starts from zero. -/
theorem entry_14 : entry m c (Proc.devRef .tc main_v1_14) = constantI S_ 32 (BitVec.ofNat 32 0) := by
  simp only [entryContents, afterL_cons, afterL_nil]
  after_reads_simp
  rfl

end Cert.ReferenceIdeal.Trip

end
-- ==== Proof.Block.lean ====
/- What one grid point of the kernel computes, entry by entry: with the prepared weights in its operands, a block's
   payloads are one LSTM step of each of its 4096 nodes and the output layer on the new hidden vectors. -/
module

public import proofs.«01_k».proof.Proof.Gen.KernelIdeal.Skeleton
public import proofs.«01_k».proof.Proof.Spec

@[expose] public section

noncomputable section

namespace Cert.KernelIdeal.Block

open Idealize.ShloMosaic Cert.KernelIdeal Cert.KernelIdeal.Gen Cert.Lstm
open Idealize.ShloMosaic.Pointwise
open scoped BigOperators

/-- The factor the kernel folds into a gate's weights: one for the candidate gate, one half for the three others. -/
def scale (q : Fin 512) : ℝ := if q.val / 128 = 2 then 1 else 1 / 2

/-- The factor is not negative. -/
theorem scale_nonneg (q : Fin 512) : 0 ≤ scale q := by
  unfold scale; split <;> norm_num

/-- The kernel's six weight operands hold the weights `W` in the kernel's own arrangement: the two embeddings' weights
    on the diagonal of one matrix that is zero elsewhere, the two gate matrices under one another and scaled. -/
structure Holds (W : Weights) (we : Vec Ideal S26x128 .bf16) (be : Vec Ideal S1x128 .f32)
    (wg : Vec Ideal S256x512 .bf16) (bg : Vec Ideal S1x512 .f32) (wo : Vec Ideal S128x5 .f32)
    (bo : Vec Ideal S1x5 .f32) : Prop where
  we_pos : ∀ (i : Fin 2) (k : Fin 128) (hi : i.val < 26),
    we (ix2 ⟨i.val, hi⟩ k) = if hk : k.val < 64 then W.Win ⟨k.val, hk⟩ i else 0
  we_soc : ∀ (i : Fin 24) (k : Fin 128) (hi : 2 + i.val < 26),
    we (ix2 ⟨2 + i.val, hi⟩ k) = if k.val < 64 then 0 else W.Wt ⟨k.val - 64, by omega⟩ i
  be_eq : ∀ k : Fin 128, be (ix2 (0 : Fin 1) k)
    = if hk : k.val < 64 then W.bin ⟨k.val, hk⟩ else W.bt ⟨k.val - 64, by omega⟩
  wg_ih : ∀ (k : Fin 128) (q : Fin 512) (hk : k.val < 256), wg (ix2 ⟨k.val, hk⟩ q) = W.Wih q k * ((scale q : ℝ) : EReal)
  wg_hh : ∀ (k : Fin 128) (q : Fin 512) (hk : 128 + k.val < 256),
    wg (ix2 ⟨128 + k.val, hk⟩ q) = W.Whh q k * ((scale q : ℝ) : EReal)
  bg_eq : ∀ q : Fin 512, bg (ix2 (0 : Fin 1) q) = (W.bih q + W.bhh q) * ((scale q : ℝ) : EReal)
  wo_eq : ∀ (k : Fin 128) (q : Fin 5), wo (ix2 k q) = W.Wout q k
  bo_eq : ∀ q : Fin 5, bo (ix2 (0 : Fin 1) q) = W.bout q

/-- What row `r` of the position block and of the surroundings block shows. -/
def inputOf (v3 : Vec Ideal S1x4096x2 .f32) (v5 : Vec Ideal S1x4096x48 .f32) (r : Fin 4096) : Input where
  pos i := v3 (ix3 (0 : Fin 1) r i)
  soc a i := v5 (ix3 (0 : Fin 1) r ⟨24 * a.val + i.val, by omega⟩)

variable {W : Weights} {we : Vec Ideal S26x128 .bf16} {be : Vec Ideal S1x128 .f32} {wg : Vec Ideal S256x512 .bf16}
  {bg : Vec Ideal S1x512 .f32} {wo : Vec Ideal S128x5 .f32} {bo : Vec Ideal S1x5 .f32}

/-- The kernel's one embedding product is the two embeddings side by side. -/
theorem emb_apply (hW : Holds W we be wg bg wo bo) (v3 : Vec Ideal S1x4096x2 .f32) (v5 : Vec Ideal S1x4096x48 .f32)
    (r : Fin 4096) (k : Fin 128) :
    max (∑ i : Fin 2, v3 (ix3 (0 : Fin 1) r i) * we (ix2 ⟨i.val, by omega⟩ k)
        + ∑ i : Fin 24, max (v5 (ix3 (0 : Fin 1) r ⟨i.val, by omega⟩)) (v5 (ix3 (0 : Fin 1) r ⟨24 + i.val, by omega⟩))
            * we (ix2 ⟨2 + i.val, by omega⟩ k)
        + be (ix2 (0 : Fin 1) k)) 0
      = emb W (inputOf v3 v5 r) k := by
  simp only [hW.we_pos, hW.we_soc, hW.be_eq]
  unfold emb posEmb socEmb inputOf
  by_cases hk : k.val < 64
  · simp [hk]
  · simp [hk]

/-- The gates' arguments in the scaled weights are the gates' arguments, scaled. -/
theorem gate_scaled (e h wi wh : Fin 128 → EReal) (bi bh : EReal) (a : ℝ) (ha : 0 ≤ a) :
    ∑ k : Fin 128, e k * (wi k * (a : EReal)) + ∑ k : Fin 128, h k * (wh k * (a : EReal)) + (bi + bh) * (a : EReal)
      = (a : EReal) * (∑ k : Fin 128, e k * wi k + bi + ∑ k : Fin 128, h k * wh k + bh) := by
  have e1 : ∀ f g : Fin 128 → EReal, ∑ k : Fin 128, f k * (g k * (a : EReal)) = (a : EReal) * ∑ k : Fin 128, f k * g k :=
    fun f g => by
      rw [mul_sum_of_nonneg _ _ ha]
      exact Finset.sum_congr rfl fun k _ => by rw [← mul_assoc, mul_comm]
  have ha' : (0 : EReal) ≤ (a : EReal) := by exact_mod_cast ha
  rw [e1, e1, mul_comm (bi + bh), ← EReal.left_distrib_of_nonneg_of_ne_top ha' (EReal.coe_ne_top a),
    ← EReal.left_distrib_of_nonneg_of_ne_top ha' (EReal.coe_ne_top a)]
  congr 1
  abel

/-- The pre-activations' hyperbolic tangent at row `r`, column `q`: that of the scaled gate argument. -/
theorem pay3_apply (hW : Holds W we be wg bg wo bo) (v3 : Vec Ideal S1x4096x2 .f32) (v5 : Vec Ideal S1x4096x48 .f32)
    (v21 : Vec Ideal S4096x128 .f32) (s : State) (r : Fin 4096) (hs : ∀ k : Fin 128, v21 (ix2 r k) = s.h k) (q : Fin 512) :
    k0_pay3 (F := Ideal) v3 v5 we be v21 wg bg (ix2 r q)
      = Ideal.tanh (((scale q : ℝ) : EReal) * gate W (inputOf v3 v5 r) s q) := by
  pointwise [k0_pay3]
  have hE := emb_apply hW v3 v5 r
  refine congrArg Ideal.tanh ?_
  refine Eq.trans ?_ (gate_scaled (emb W (inputOf v3 v5 r)) s.h (W.Wih q) (W.Whh q) (W.bih q) (W.bhh q) (scale q) (scale_nonneg q))
  refine congrArg₂ (· + ·) (congrArg₂ (· + ·) (Finset.sum_congr rfl fun k _ => ?_) (Finset.sum_congr rfl fun k _ => ?_)) (hW.bg_eq q)
  · exact congrArg₂ (· * ·) (hE k) (hW.wg_ih k q _)
  · exact congrArg₂ (· * ·) (hs k) (hW.wg_hh k q _)

/-- Off the candidate gate the factor is one half. -/
theorem scale_half (q : Fin 512) (h : q.val / 128 ≠ 2) : scale q = 1 / 2 := if_neg h

/-- On the candidate gate the factor is one. -/
theorem scale_one (q : Fin 512) (h : q.val / 128 = 2) : scale q = 1 := if_pos h

/-- The cell payload at row `r` is the next cell vector. -/
theorem pay4_apply (hW : Holds W we be wg bg wo bo) (v3 : Vec Ideal S1x4096x2 .f32) (v5 : Vec Ideal S1x4096x48 .f32)
    (v21 v22 : Vec Ideal S4096x128 .f32) (s : State) (r : Fin 4096) (hs : ∀ k : Fin 128, v21 (ix2 r k) = s.h k)
    (hc : ∀ k : Fin 128, v22 (ix2 r k) = s.c k) (k : Fin 128) :
    k0_pay4 (F := Ideal) v22 (k0_pay3 (F := Ideal) v3 v5 we be v21 wg bg) (ix2 r k)
      = nextC W (inputOf v3 v5 r) s k := by
  have h3 := pay3_apply hW v3 v5 v21 s r hs
  generalize k0_pay3 (F := Ideal) v3 v5 we be v21 wg bg = v33 at h3
  pointwise [k0_pay4]
  rw [h3, h3, h3, hc, ofBits_half, scale_half _ (by simp; omega), scale_half _ (by simp; omega), scale_one _ (by simp; omega),
    ← logistic_eq_tanh, ← logistic_eq_tanh, EReal.coe_one, one_mul]
  rfl

/-- The hidden payload at row `r` is the next hidden vector. -/
theorem pay5_apply (hW : Holds W we be wg bg wo bo) (v3 : Vec Ideal S1x4096x2 .f32) (v5 : Vec Ideal S1x4096x48 .f32)
    (v21 v22 : Vec Ideal S4096x128 .f32) (s : State) (r : Fin 4096) (hs : ∀ k : Fin 128, v21 (ix2 r k) = s.h k)
    (hc : ∀ k : Fin 128, v22 (ix2 r k) = s.c k) (k : Fin 128) :
    k0_pay5 (F := Ideal) v22 (k0_pay3 (F := Ideal) v3 v5 we be v21 wg bg) (ix2 r k)
      = nextH W (inputOf v3 v5 r) s k := by
  have h3 := pay3_apply hW v3 v5 v21 s r hs
  have h4 := pay4_apply hW v3 v5 v21 v22 s r hs hc k
  generalize k0_pay3 (F := Ideal) v3 v5 we be v21 wg bg = v33 at h3 h4
  pointwise [k0_pay5]
  rw [h3, h4, ofBits_half, scale_half _ (by simp; omega), ← logistic_eq_tanh]
  rfl

/-- The stored hidden payload is the hidden payload. -/
theorem pay6_eq (v22 : Vec Ideal S4096x128 .f32) (v33 : FVec Ideal S4096x512 .f32) :
    k0_pay6 (F := Ideal) v22 v33 = k0_pay5 (F := Ideal) v22 v33 := by
  unfold k0_pay6; exact shapeCast_self _ _

/-- The stored cell payload is the cell payload. -/
theorem pay7_eq (v22 : Vec Ideal S4096x128 .f32) (v33 : FVec Ideal S4096x512 .f32) :
    k0_pay7 (F := Ideal) v22 v33 = k0_pay4 (F := Ideal) v22 v33 := by
  unfold k0_pay7; exact shapeCast_self _ _

/-- The output payload at row `r` is the output layer on the next hidden vector. -/
theorem pay8_apply (hW : Holds W we be wg bg wo bo) (v3 : Vec Ideal S1x4096x2 .f32) (v5 : Vec Ideal S1x4096x48 .f32)
    (v21 v22 : Vec Ideal S4096x128 .f32) (s : State) (r : Fin 4096) (hs : ∀ k : Fin 128, v21 (ix2 r k) = s.h k)
    (hc : ∀ k : Fin 128, v22 (ix2 r k) = s.c k) (q : Fin 5) :
    k0_pay8 (F := Ideal) v22 (k0_pay3 (F := Ideal) v3 v5 we be v21 wg bg) wo bo (ix3 (0 : Fin 1) r q)
      = outRow W (nextH W (inputOf v3 v5 r) s) q := by
  have h5 := pay5_apply hW v3 v5 v21 v22 s r hs hc
  generalize k0_pay3 (F := Ideal) v3 v5 we be v21 wg bg = v33 at h5
  pointwise [k0_pay8]
  unfold outRow
  simp only [h5, hW.wo_eq, hW.bo_eq]

/-- The zero block stored before the first time step. -/
theorem pay1_apply (r : Fin 4096) (k : Fin 128) : k0_pay1 (F := Ideal) (ix2 r k) = 0 := by
  pointwise [k0_pay1]

/-- The cell block starts at zero. -/
theorem pay2_apply (r : Fin 4096) (k : Fin 128) : k0_pay2 (F := Ideal) (ix2 r k) = 0 := by
  pointwise [k0_pay2]

end Cert.KernelIdeal.Block

end
-- ==== Proof.SetBlock.lean ====
/- A block written into a table at one pair of index words, as the host's scatter does it. -/
module

public import Idealize.ShloMosaic.Lib.Pointwise
public import Idealize.ShloMosaic.Lib.Routing.OpsOne

@[expose] public section

namespace Cert.Lstm

open Idealize.ShloMosaic Idealize.ShloMosaic.Pointwise Idealize.ShloMosaic.Routing

/-- Where an update of a block set at one pair of index words lands: at the pair plus its own coordinates. -/
theorem lands_block {R C A B : Nat} (d : ScatterDims (shape2 R C) (shape1 2) (shape2 A B))
    (huw : d.updateWindowDims = [0, 1]) (hiw : d.insertedWindowDims = [])
    (hsd : d.scatterDimsToOperandDims = [0, 1]) (hivd : d.indexVectorDim = 0) (idx : IVec (shape1 2) 32)
    (a : Fin A) (b : Fin B) (r : Fin R) (q : Fin C) :
    d.resultIdx? (ix2 a b) idx = some (ix2 r q) ↔
      (idx (ValueIdx.ix1 (0 : Fin 2))).toInt + (a.val : Int) = r.val ∧ (idx (ValueIdx.ix1 (1 : Fin 2))).toInt + (b.val : Int) = q.val := by
  have hk : d.sKept = [0, 1] := by
    show (shape2 R C).kept d.insertedWindowDims = _
    rw [hiw]
    rfl
  have hwin0 : d.window (ix2 a b) 0 = a.val := by
    unfold ScatterDims.window
    rw [dif_pos (by rw [hk]; simp)]
    have : ∀ (x : Fin 2), x = 0 → (ix2 a b x).val = a.val := by rintro _ rfl; rfl
    exact this _ (by simp [hk, huw])
  have hwin1 : d.window (ix2 a b) 1 = b.val := by
    unfold ScatterDims.window
    rw [dif_pos (by rw [hk]; simp)]
    have : ∀ (x : Fin 2), x = 1 → (ix2 a b x).val = b.val := by rintro _ rfl; rfl
    exact this _ (by simp [hk, huw])
  refine (resultIdx?_ix2 d _ idx r q).trans ?_
  rw [start_pair d hsd hivd, start_pair d hsd hivd, hwin0, hwin1]

/-- A block set at one pair of index words, read at an entry: the block's entry inside it, the old table's outside. -/
theorem scatter_block {α : Type} {R C A B : Nat} (d : ScatterDims (shape2 R C) (shape1 2) (shape2 A B))
    (huw : d.updateWindowDims = [0, 1]) (hiw : d.insertedWindowDims = [])
    (hsd : d.scatterDimsToOperandDims = [0, 1]) (hivd : d.indexVectorDim = 0) (x : (shape2 R C).Idx → α)
    (idx : IVec (shape1 2) 32) (upd : (shape2 A B).Idx → α) (i j : Nat)
    (hi : (idx (ValueIdx.ix1 (0 : Fin 2))).toInt = i) (hj : (idx (ValueIdx.ix1 (1 : Fin 2))).toInt = j) (r : Fin R) (q : Fin C) :
    Host.scatter d (fun _ b => b) x idx upd (ix2 r q)
      = if h : i ≤ r.val ∧ r.val < i + A ∧ j ≤ q.val ∧ q.val < j + B then
          upd (ix2 ⟨r.val - i, by omega⟩ ⟨q.val - j, by omega⟩) else x (ix2 r q) := by
  have key := lands_block d huw hiw hsd hivd idx
  simp only [hi, hj] at key
  have two : ∀ k : (shape2 A B).Idx, ∃ a b, k = ix2 a b := fun k =>
    ⟨k 0, k 1, by funext t; match t with
      | ⟨0, _⟩ => rfl
      | ⟨1, _⟩ => rfl⟩
  by_cases h : i ≤ r.val ∧ r.val < i + A ∧ j ≤ q.val ∧ q.val < j + B
  · rw [dif_pos h]
    refine scatter_set_hit d x idx upd _ _ (fun k hk => ?_) (ix2 ⟨r.val - i, by omega⟩ ⟨q.val - j, by omega⟩)
      ((key _ _ r q).2 ⟨by simp only; omega, by simp only; omega⟩)
    obtain ⟨a, b, rfl⟩ := two k
    obtain ⟨h1, h2⟩ := (key a b r q).1 hk
    congr 2 <;> apply Fin.ext <;> simp only <;> omega
  · rw [dif_neg h]
    refine scatter_set_miss d x idx upd _ fun k hk => h ?_
    obtain ⟨a, b, rfl⟩ := two k
    obtain ⟨h1, h2⟩ := (key a b r q).1 hk
    have := a.isLt
    have := b.isLt
    omega

end Cert.Lstm
-- ==== Proof.Operands.lean ====
/- The tables the kernel's host part prepares, read entry by entry: they hold the weights in the layout the kernel's
   block computation takes. -/
module

public import proofs.«01_k».proof.Proof.Gen.KernelIdeal.Frame.Runs
public import Idealize.ShloMosaic.Lib.StableHlo.ReadAt
public import proofs.«01_k».proof.Proof.Block
public import proofs.«01_k».proof.Proof.SetBlock

@[expose] public section

noncomputable section

namespace Cert.KernelIdeal.Operands

open Idealize.ShloMosaic Cert.KernelIdeal Cert.KernelIdeal.Gen Cert.Lstm Idealize.SL.Sem
open Idealize.ShloMosaic.Pointwise

/-- The weights an argument memory holds. -/
def weights (m : (ℓ : Loc nD τ sig) → Buf (Elt Ideal) ℓ) (c : Dev nD) : Weights where
  Win k i := (m (c, Proc.tc.devRef main_arg6) : Vec Ideal S64x2 .f32) (ix2 k i)
  bin k := (m (c, Proc.tc.devRef main_arg7) : Vec Ideal S64 .f32) (ix1 k)
  Wt k i := (m (c, Proc.tc.devRef main_arg8) : Vec Ideal S64x24 .f32) (ix2 k i)
  bt k := (m (c, Proc.tc.devRef main_arg9) : Vec Ideal S64 .f32) (ix1 k)
  Wih q k := (m (c, Proc.tc.devRef main_arg10) : Vec Ideal S512x128 .f32) (ix2 q k)
  Whh q k := (m (c, Proc.tc.devRef main_arg11) : Vec Ideal S512x128 .f32) (ix2 q k)
  bih q := (m (c, Proc.tc.devRef main_arg12) : Vec Ideal S512 .f32) (ix1 q)
  bhh q := (m (c, Proc.tc.devRef main_arg13) : Vec Ideal S512 .f32) (ix1 q)
  Wout q k := (m (c, Proc.tc.devRef main_arg14) : Vec Ideal S5x128 .f32) (ix2 q k)
  bout q := (m (c, Proc.tc.devRef main_arg15) : Vec Ideal S5 .f32) (ix1 q)

variable (m : (ℓ : Loc nD τ sig) → Buf (Elt Ideal) ℓ) (c : Dev nD)

/-- The test the host makes of a gate column: whether it lies in the third quarter of the 512 columns. -/
def third : IVec S512 1 :=
          (cmpi CmpIPredicate.eq
            (select
              (andi
                (cmpi CmpIPredicate.ne (signi (iotaInDim S512 32 0))
                  (broadcastInDim S512 ![] bcast_S_S512 (signi (id (constantI S_ 32 128#32)))))
                (cmpi CmpIPredicate.ne
                  (Host.remsi (iotaInDim S512 32 0)
                    (broadcastInDim S512 ![] bcast_S_S512 (id (constantI S_ 32 128#32))))
                  (broadcastInDim S512 ![] bcast_S_S512 (constantI S_ 32 0#32))))
              (subi
                (Host.divsi (iotaInDim S512 32 0) (broadcastInDim S512 ![] bcast_S_S512 (id (constantI S_ 32 128#32))))
                (broadcastInDim S512 ![] bcast_S_S512 (constantI S_ 32 1#32)))
              (Host.divsi (iotaInDim S512 32 0) (broadcastInDim S512 ![] bcast_S_S512 (id (constantI S_ 32 128#32)))))
            (broadcastInDim S512 ![] bcast_S_S512 (constantI S_ 32 2#32)))

/-- The test, column by column. -/
theorem third_apply : ∀ q : Fin 512, third (ix1 q) = if q.val / 128 = 2 then 1#1 else 0#1 := by
  decide +kernel

/-- The factor of a gate column: 1 in the third quarter, one half elsewhere. -/
theorem factor_apply (q : Fin 512) :
    select third (broadcastInDim S512 ![] bcast_S_S512 (constant (F := Ideal) S_ FTy.f32 1065353216#32))
      (broadcastInDim S512 ![] bcast_S_S512 (constant S_ FTy.f32 1056964608#32)) (ix1 q) = ((Block.scale q : ℝ) : EReal) := by
  show (if third (ix1 q) = 1#1 then Ideal.ofBits .f32 1065353216#32 else Ideal.ofBits .f32 1056964608#32) = _
  rw [third_apply, Block.scale]
  by_cases h : q.val / 128 = 2
  · rw [if_pos h, if_pos h, if_pos rfl]
    exact Ideal.ofBits_one_f32
  · rw [if_neg h, if_neg h, if_neg (by decide)]
    exact ofBits_half

/-- The embedding bias: the two biases end to end. -/
theorem V14 (k : Fin 128) : (V m c main_v14 : Vec Ideal S1x128 .f32) (ix2 (0 : Fin 1) k)
    = if hk : k.val < 64 then (weights m c).bin ⟨k.val, hk⟩ else (weights m c).bt ⟨k.val - 64, by omega⟩ := by
  unfold V
  simp only [List.flatten_cons, List.flatten_nil, List.append_nil]
  after_reads_at
  after_reads_simp
  rfl

/-- The output matrix, transposed. -/
theorem V18 (k : Fin 128) (q : Fin 5) : (V m c main_v18 : Vec Ideal S128x5 .f32) (ix2 k q) = (weights m c).Wout q k := by
  unfold V
  simp only [List.flatten_cons, List.flatten_nil, List.append_nil]
  after_reads_at
  rfl

/-- The output bias as a row. -/
theorem V33 (q : Fin 5) : (V m c main_v33 : Vec Ideal S1x5 .f32) (ix2 (0 : Fin 1) q) = (weights m c).bout q := by
  unfold V
  simp only [List.flatten_cons, List.flatten_nil, List.append_nil]
  after_reads_at
  rfl

/-- The gate bias: the two biases added, scaled by column. -/
theorem V32 (q : Fin 512) : (V m c main_v32 : Vec Ideal S1x512 .f32) (ix2 (0 : Fin 1) q)
    = ((weights m c).bih q + (weights m c).bhh q) * ((Block.scale q : ℝ) : EReal) := by
  unfold V
  simp only [List.flatten_cons, List.flatten_nil, List.append_nil]
  after_reads_at
  exact congrArg (_ * ·) (factor_apply q)

/-- The upper half of the gate matrix: the input weights, transposed and scaled by column. -/
theorem V30_ih (k : Fin 128) (q : Fin 512) (hk : k.val < 256) : (V m c main_v30 : Vec Ideal S256x512 .bf16) (ix2 ⟨k.val, hk⟩ q)
    = (weights m c).Wih q k * ((Block.scale q : ℝ) : EReal) := by
  unfold V
  simp only [List.flatten_cons, List.flatten_nil, List.append_nil]
  after_reads_at
  refine congrArg₂ (fun a b : EReal => a * b) ?_ (factor_apply q)
  after_reads_at
  rfl

/-- The lower half of the gate matrix: the hidden weights, transposed and scaled by column. -/
theorem V30_hh (k : Fin 128) (q : Fin 512) (hk : 128 + k.val < 256) : (V m c main_v30 : Vec Ideal S256x512 .bf16) (ix2 ⟨128 + k.val, hk⟩ q)
    = (weights m c).Whh q k * ((Block.scale q : ℝ) : EReal) := by
  unfold V
  simp only [List.flatten_cons, List.flatten_nil, List.append_nil]
  after_reads_at
  refine congrArg₂ (fun a b : EReal => a * b) ?_ (factor_apply q)
  after_reads_at
  rfl

/-- The embedding matrix: the position weights in its upper left block, the surroundings' weights in its lower right block, zero elsewhere. -/
theorem V12 (i : Fin 26) (k : Fin 128) (v : EReal) (hv : (if h : 2 ≤ i.val ∧ i.val < 2 + 24 ∧ 64 ≤ k.val ∧ k.val < 64 + 64 then
      (weights m c).Wt ⟨k.val - 64, by omega⟩ ⟨i.val - 2, by omega⟩
    else if h : 0 ≤ i.val ∧ i.val < 0 + 2 ∧ 0 ≤ k.val ∧ k.val < 0 + 64 then
      (weights m c).Win ⟨k.val - 0, by omega⟩ ⟨i.val - 0, by omega⟩
    else 0) = v) : (V m c main_v12 : Vec Ideal S26x128 .bf16) (ix2 i k) = v := by
  unfold V
  simp only [List.flatten_cons, List.flatten_nil, List.append_nil]
  after_reads_at
  refine (scatter_block (R := 26) (C := 128) (A := 24) (B := 64) scatter_S26x128_S2_S24x64_01_n_01_0 rfl rfl rfl rfl _ _ _ 2 64 ?_ ?_ i k).trans (Eq.trans ?_ hv)
  · pointwise
    after_reads_at
    rfl
  · pointwise
    after_reads_at
    rfl
  · refine dite_congr rfl (fun h => ?_) fun h => ?_
    · pointwise
      rfl
    · refine (scatter_block (R := 26) (C := 128) (A := 2) (B := 64) scatter_S26x128_S2_S2x64_01_n_01_0 rfl rfl rfl rfl _ _ _ 0 0 ?_ ?_ i k).trans ?_
      · pointwise
        after_reads_at
        rfl
      · pointwise
        after_reads_at
        rfl
      · refine dite_congr rfl (fun h => ?_) fun h => ?_
        · pointwise
          rfl
        · pointwise

/-- The prepared tables hold the weights in the kernel's layout. -/
theorem holds : Block.Holds (weights m c) (V m c main_v12) (V m c main_v14) (V m c main_v30) (V m c main_v32)
    (V m c main_v18) (V m c main_v33) where
  we_pos i k hi := by
    refine V12 m c _ k _ ?_
    rw [dif_neg (by simp only; omega)]
    by_cases hk : k.val < 64
    · rw [dif_pos (by simp only; omega), dif_pos hk]
      rfl
    · rw [dif_neg (by simp only; omega), dif_neg hk]
  we_soc i k hi := by
    refine V12 m c _ k _ ?_
    by_cases hk : k.val < 64
    · rw [dif_neg (by simp only; omega), dif_neg (by simp only; omega), if_pos hk]
    · rw [dif_pos (by simp only; omega), if_neg hk]
      congr 1
      apply Fin.ext
      simp
  be_eq := V14 m c
  wg_ih := V30_ih m c
  wg_hh := V30_hh m c
  bg_eq := V32 m c
  wo_eq := V18 m c
  bo_eq := V33 m c

/-- The prepared surroundings: the two rows of 24 side by side. -/
theorem V0 (t : Fin 20) (r : Fin 16384) (i : Fin 48) : (V m c main_v0 : Vec Ideal S20x16384x48 .f32) (ix3 t r i)
    = (m (c, Proc.tc.devRef main_arg5) : Vec Ideal S20x16384x2x24 .f32) (ix4 t r ⟨i.val / 24, by omega⟩ ⟨i.val % 24, by omega⟩) := by
  unfold V
  simp only [List.flatten_cons, List.flatten_nil, List.append_nil]
  after_reads_at

end Cert.KernelIdeal.Operands

end
-- ==== Proof.Windows.lean ====
/- What each window of the kernel shows at a grid point: a block of positions, a block of surroundings, and the six
   prepared tables whole. Point `n * 20 + t` shows node block `n` at time step `t`. -/
module

public import proofs.«01_k».proof.Proof.Operands

@[expose] public section

noncomputable section

namespace Cert.KernelIdeal.Windows

open Idealize.ShloMosaic Idealize.ShloMosaic.TcCoe Cert.KernelIdeal Cert.KernelIdeal.Gen Cert.Lstm Idealize.SL.Sem
open Idealize.ShloMosaic.Pointwise
open Cert.KernelIdeal.Operands

variable (m : (ℓ : Loc nD τ sig) → Buf (Elt Ideal) ℓ) (c : Dev nD)

/-- What node `n` is shown at time step `t` by an argument memory. -/
def shown (n : Fin 16384) (t : ℕ) : Input where
  pos i := (m (c, Proc.tc.devRef main_arg0) : Vec Ideal S20x16384x2 .f32) (ix3 (⟨t % 20, Nat.mod_lt _ (by decide)⟩ : Fin 20) n i)
  soc a i := (m (c, Proc.tc.devRef main_arg5) : Vec Ideal S20x16384x2x24 .f32)
    (ix4 (⟨t % 20, Nat.mod_lt _ (by decide)⟩ : Fin 20) n a i)

/-- The node at row `r` of the block point `t` works on. -/
def node (t : Fin cfg0.N) (r : Fin 4096) : Fin 16384 :=
  ⟨4096 * (t.val / 20) + r.val, by have := t.isLt; have : cfg0.N = 80 := N_0; omega⟩

/-- Where window 0 lies at each point. -/
theorem index0 : ∀ t : Fin cfg0.N, win0_0.index t (0 : Fin 3) = t.val % 20 ∧ win0_0.index t (1 : Fin 3) = t.val / 20
    ∧ win0_0.index t (2 : Fin 3) = 0 :=
  (by decide +kernel : ∀ t : Fin grid0.N, _)

/-- Where window 1 lies at each point. -/
theorem index1 : ∀ t : Fin cfg0.N, win0_1.index t (0 : Fin 3) = t.val % 20 ∧ win0_1.index t (1 : Fin 3) = t.val / 20
    ∧ win0_1.index t (2 : Fin 3) = 0 :=
  (by decide +kernel : ∀ t : Fin grid0.N, _)

/-- The block of positions, read at an entry. -/
theorem iblk0 (t : Fin cfg0.N) (r : Fin 4096) (i : Fin 2) :
    (iblk m c 0 t : Vec Ideal S1x4096x2 .f32) (ix3 (0 : Fin 1) r i)
      = (V m c main_arg0 : Vec Ideal S20x16384x2 .f32) (ix3 (⟨t.val % 20, Nat.mod_lt _ (by decide)⟩ : Fin 20) (node t r) i) := by
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val % 20; rw [h0]; omega
  | ⟨1, _⟩ => show win0_0.index t 1 * 4096 + 1 * r.val = 4096 * (t.val / 20) + r.val; rw [h1]; omega
  | ⟨2, _⟩ => show win0_0.index t 2 * 2 + 1 * i.val = i.val; rw [h2]; omega

/-- The block of surroundings, read at an entry. -/
theorem iblk1 (t : Fin cfg0.N) (r : Fin 4096) (i : Fin 48) :
    (iblk m c 1 t : Vec Ideal S1x4096x48 .f32) (ix3 (0 : Fin 1) r i)
      = (V m c main_v0 : Vec Ideal S20x16384x48 .f32) (ix3 (⟨t.val % 20, Nat.mod_lt _ (by decide)⟩ : Fin 20) (node t r) i) := by
  obtain ⟨h0, h1, h2⟩ := index1 t
  unfold iblk
  rw [View.read_apply]
  show V m c main_v0 _ = V m c main_v0 _
  congr 1
  funext a
  apply Fin.ext
  match a with
  | ⟨0, _⟩ => show win0_1.index t 0 * 1 + 1 * 0 = t.val % 20; rw [h0]; omega
  | ⟨1, _⟩ => show win0_1.index t 1 * 4096 + 1 * r.val = 4096 * (t.val / 20) + r.val; rw [h1]; omega
  | ⟨2, _⟩ => show win0_1.index t 2 * 48 + 1 * i.val = i.val; rw [h2]; omega

/-- The index that a window of its table's own size, lying at the origin, shows at an index is that index. -/
theorem at_origin {S : Shape} {x j : S.Idx} {o : Fin S.rank → ℕ} (ho : ∀ a, o a = 0)
    (he : ∀ a, (x a).val = o a * S.size a + 1 * (j a).val) : x = j :=
  funext fun a => Fin.ext (by rw [he, ho]; omega)

/-- The windows of the six prepared tables lie at the origin at every point. -/
theorem index_tables : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) :=
  (by decide +kernel : ∀ t : Fin grid0.N, _)

/-- Window 2 shows the embedding matrix whole. -/
theorem iblk2 (t : Fin cfg0.N) : (iblk m c 2 t : Vec Ideal S26x128 .bf16) = V m c main_v12 := by
  funext j
  unfold iblk
  rw [View.read_apply]
  exact congrArg (V m c main_v12) (at_origin (S := S26x128) (index_tables t).1 fun _ => rfl)

/-- Window 3 shows the embedding bias whole. -/
theorem iblk3 (t : Fin cfg0.N) : (iblk m c 3 t : Vec Ideal S1x128 .f32) = V m c main_v14 := by
  funext j
  unfold iblk
  rw [View.read_apply]
  exact congrArg (V m c main_v14) (at_origin (S := S1x128) (index_tables t).2.1 fun _ => rfl)

/-- Window 4 shows the gate matrix whole. -/
theorem iblk4 (t : Fin cfg0.N) : (iblk m c 4 t : Vec Ideal S256x512 .bf16) = V m c main_v30 := by
  funext j
  unfold iblk
  rw [View.read_apply]
  exact congrArg (V m c main_v30) (at_origin (S := S256x512) (index_tables t).2.2.1 fun _ => rfl)

/-- Window 5 shows the gate bias whole. -/
theorem iblk5 (t : Fin cfg0.N) : (iblk m c 5 t : Vec Ideal S1x512 .f32) = V m c main_v32 := by
  funext j
  unfold iblk
  rw [View.read_apply]
  exact congrArg (V m c main_v32) (at_origin (S := S1x512) (index_tables t).2.2.2.1 fun _ => rfl)

/-- Window 6 shows the output matrix whole. -/
theorem iblk6 (t : Fin cfg0.N) : (iblk m c 6 t : Vec Ideal S128x5 .f32) = V m c main_v18 := by
  funext j
  unfold iblk
  rw [View.read_apply]
  exact congrArg (V m c main_v18) (at_origin (S := S128x5) (index_tables t).2.2.2.2.1 fun _ => rfl)

/-- Window 7 shows the output bias whole. -/
theorem iblk7 (t : Fin cfg0.N) : (iblk m c 7 t : Vec Ideal S1x5 .f32) = V m c main_v33 := by
  funext j
  unfold iblk
  rw [View.read_apply]
  exact congrArg (V m c main_v33) (at_origin (S := S1x5) (index_tables t).2.2.2.2.2 fun _ => rfl)

/-- The tables the kernel is shown hold the weights. -/
theorem holds (t : Fin cfg0.N) : Block.Holds (weights m c) (iblk m c 2 t) (iblk m c 3 t) (iblk m c 4 t) (iblk m c 5 t)
    (iblk m c 6 t) (iblk m c 7 t) := by
  have h := Operands.holds m c
  rw [← iblk2 m c t, ← iblk3 m c t, ← iblk4 m c t, ← iblk5 m c t, ← iblk6 m c t, ← iblk7 m c t] at h
  exact h

/-- Row `r` of the two input blocks shows its node's input at the point's time step. -/
theorem inputOf_eq (t : Fin cfg0.N) (r : Fin 4096) :
    Block.inputOf (iblk m c 0 t) (iblk m c 1 t) r = shown m c (node t r) (t.val % 20) := by
  have ht : (⟨t.val % 20 % 20, Nat.mod_lt _ (by decide)⟩ : Fin 20) = ⟨t.val % 20, Nat.mod_lt _ (by decide)⟩ :=
    Fin.ext (Nat.mod_mod _ _)
  unfold Block.inputOf shown
  rw [ht]
  congr 1
  · funext i
    rw [iblk0, V_main_arg0]
  · funext a i
    rw [iblk1, V0]
    have h1 : (⟨(24 * a.val + i.val) / 24, by omega⟩ : Fin 2) = a := Fin.ext (by simp only; omega)
    have h2 : (⟨(24 * a.val + i.val) % 24, by omega⟩ : Fin 24) = i := Fin.ext (by simp only; omega)
    simp only [h1, h2]

end Cert.KernelIdeal.Windows

end
-- ==== Proof.Point.lean ====
/- What one grid point leaves in its output block and in the two carried scratch blocks, as the block computation's
   own terms over the point's input blocks: the first time step of a node block starts from zeros, the others from what
   the point before left, and the last also hands the two state blocks out. -/
module

public import proofs.«01_k».proof.Proof.Gen.KernelIdeal.Frame
public import Idealize.ShloMosaic.Lib.Pipeline.Value

@[expose] public section

noncomputable section

namespace Cert.KernelIdeal.Point

open Idealize.ShloMosaic Idealize.ShloMosaic.TcCoe Cert.KernelIdeal Cert.KernelIdeal.Gen Idealize.SL.Sem

variable {F : FTy → Type} [FloatOps F]

/-- Two zero offsets. -/
theorem hz2 : (![0, 0] : Fin 2 → Nat) = fun _ => 0 := funext fun a => by fin_cases a <;> rfl

/-- Three zero offsets. -/
theorem hz3 : (![0, 0, 0] : Fin 3 → Nat) = fun _ => 0 := funext fun a => by fin_cases a <;> rfl

/-- A load of the whole of a buffer reads what the buffer holds. -/
theorem load_whole {S : Shape} {e : EltTy} {a : Memref sig .tc .vmem S e} (h : a.IsWhole) {off : Fin S.rank → Nat}
    (h0 : off = fun _ => 0) (inb : ∀ d, off d + S.size d ≤ S.size d) (X : S.Idx → Elt F e) :
    a.view.readAt (Elt F) (Rect.unit off S.size inb) (h.unread X) = X := by
  rw [View.readAt_eq_ld, h.read_unread, View.ld_unit_zero h0]

/-! The buffers of a grid point (each used whole), the input blocks in them, and the two states that the point before left. -/

variable {c : Dev nD} {i : grid0.Coords}
  {a2 : Memref sig .tc .vmem S1x4096x2 .f32} {h2 : a2.IsWhole} {a3 : Memref sig .tc .vmem S1x4096x48 .f32} {h3 : a3.IsWhole}
  {a4 : Memref sig .tc .vmem S26x128 .bf16} {h4 : a4.IsWhole} {a5 : Memref sig .tc .vmem S1x128 .f32} {h5 : a5.IsWhole}
  {a6 : Memref sig .tc .vmem S256x512 .bf16} {h6 : a6.IsWhole} {a7 : Memref sig .tc .vmem S1x512 .f32} {h7 : a7.IsWhole}
  {a8 : Memref sig .tc .vmem S128x5 .f32} {h8 : a8.IsWhole} {a9 : Memref sig .tc .vmem S1x5 .f32} {h9 : a9.IsWhole}
  {a10 : Memref sig .tc .vmem S1x4096x5 .f32} {h10 : a10.IsWhole} {a11 : Memref sig .tc .vmem S4096x128 .f32} {h11 : a11.IsWhole}
  {a12 : Memref sig .tc .vmem S4096x128 .f32} {h12 : a12.IsWhole} {a13 : Memref sig .tc .vmem S4096x128 .f32} {h13 : a13.IsWhole}
  {a14 : Memref sig .tc .vmem S4096x128 .f32} {h14 : a14.IsWhole}
  {x0 : Vec F S1x4096x2 .f32} {x1 : Vec F S1x4096x48 .f32} {x2 : Vec F S26x128 .bf16} {x3 : Vec F S1x128 .f32}
  {x4 : Vec F S256x512 .bf16} {x5 : Vec F S1x512 .f32} {x6 : Vec F S128x5 .f32} {x7 : Vec F S1x5 .f32}
  {xs0 xs1 : Vec F S4096x128 .f32}

/-- A first time step, from zero states: the output block is the output layer on the new hidden block, and the carried
    blocks are the new hidden and cell blocks. -/
theorem first {hc0 : cond0_0 i} {hc1 : ¬cond0_1 i} :
    out0_A_8 c i a2 h2 a3 h3 a4 h4 a5 h5 a6 h6 a7 h7 a8 h8 a9 h9 a10 h10 a11 h11 a12 h12 a13 h13 a14 h14 hc0 hc1
        x0 x1 x2 x3 x4 x5 x6 x7 = k0_pay8 k0_pay2 (k0_pay3 x0 x1 x2 x3 k0_pay1 x4 x5) x6 x7
    ∧ sout0_A_0 c i a2 h2 a3 h3 a4 h4 a5 h5 a6 h6 a7 h7 a8 h8 a9 h9 a10 h10 a11 h11 a12 h12 a13 h13 a14 h14 hc0 hc1
        x0 x1 x2 x3 x4 x5 x6 x7 = k0_pay6 k0_pay2 (k0_pay3 x0 x1 x2 x3 k0_pay1 x4 x5)
    ∧ sout0_A_1 c i a2 h2 a3 h3 a4 h4 a5 h5 a6 h6 a7 h7 a8 h8 a9 h9 a10 h10 a11 h11 a12 h12 a13 h13 a14 h14 hc0 hc1
        x0 x1 x2 x3 x4 x5 x6 x7 = k0_pay7 k0_pay2 (k0_pay3 x0 x1 x2 x3 k0_pay1 x4 x5) := by
  refine ⟨(View.read_writes_eq_canon _ _ _ (fun _ => cover0_A_8 ..)).trans ?_,
    (View.read_writes_eq_canon _ _ _ (fun _ => scover0_A_0 ..)).trans ?_,
    (View.read_writes_eq_canon _ _ _ (fun _ => scover0_A_1 ..)).trans ?_⟩
  all_goals
    unfold kernelRun0_A
    dsimp only
    sl_unfold_words
    simp only [View.canon_cons_unit_zero (S := S1x4096x5) hz3, View.canon_cons_unit_zero (S := S4096x128) hz2,
      View.readCov_unit_zero (S := S4096x128) _ hz2, load_whole h2 hz3, load_whole h3 hz3, load_whole h4 hz2,
      load_whole h5 hz2, load_whole h6 hz2, load_whole h7 hz2, load_whole h8 hz2, load_whole h9 hz2]

/-- A middle time step, from the carried states: the output block is the output layer on the new hidden block, and the
    carried blocks are the new hidden and cell blocks. -/
theorem middle {hc0 : ¬cond0_0 i} {hc1 : ¬cond0_1 i} :
    out0_B_8 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay8 xs1 (k0_pay3 x0 x1 x2 x3 xs0 x4 x5) x6 x7
    ∧ sout0_B_0 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay6 xs1 (k0_pay3 x0 x1 x2 x3 xs0 x4 x5)
    ∧ sout0_B_1 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay7 xs1 (k0_pay3 x0 x1 x2 x3 xs0 x4 x5) := by
  refine ⟨(View.read_writes_eq_canon _ _ _ (fun _ => cover0_B_8 ..)).trans ?_,
    (View.read_writes_eq_canon _ _ _ (fun _ => scover0_B_0 ..)).trans ?_,
    (View.read_writes_eq_canon _ _ _ (fun _ => scover0_B_1 ..)).trans ?_⟩
  all_goals
    unfold kernelRun0_B
    dsimp only
    sl_unfold_words
    simp only [View.canon_cons_unit_zero (S := S1x4096x5) hz3, View.canon_cons_unit_zero (S := S4096x128) hz2,
      load_whole h13 hz2, load_whole h14 hz2, load_whole h2 hz3, load_whole h3 hz3, load_whole h4 hz2,
      load_whole h5 hz2, load_whole h6 hz2, load_whole h7 hz2, load_whole h8 hz2, load_whole h9 hz2]

/-- A last time step, from the carried states: as a middle one, and the two state blocks handed out are the new hidden and
    cell blocks. -/
theorem last {hc0 : ¬cond0_0 i} {hc1 : cond0_1 i} :
    out0_C_8 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay8 xs1 (k0_pay3 x0 x1 x2 x3 xs0 x4 x5) x6 x7
    ∧ out0_C_9 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay5 xs1 (k0_pay3 x0 x1 x2 x3 xs0 x4 x5)
    ∧ out0_C_10 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay4 xs1 (k0_pay3 x0 x1 x2 x3 xs0 x4 x5)
    ∧ sout0_C_0 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay6 xs1 (k0_pay3 x0 x1 x2 x3 xs0 x4 x5)
    ∧ sout0_C_1 c i a2 h2 a3 h3 a4 h4 a5 h5 a6 h6 a7 h7 a8 h8 a9 h9 a10 h10 a11 h11 a12 h12 a13 h13 a14 h14 hc0 hc1
        x0 x1 x2 x3 x4 x5 x6 x7 xs0 xs1 = k0_pay7 xs1 (k0_pay3 x0 x1 x2 x3 xs0 x4 x5) := by
  refine ⟨(View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_,
    (View.read_writes_eq_canon _ _ _ (fun _ => scover0_C_0 ..)).trans ?_,
    (View.read_writes_eq_canon _ _ _ (fun _ => scover0_C_1 ..)).trans ?_⟩
  all_goals
    unfold kernelRun0_C
    dsimp only
    sl_unfold_words
    simp only [View.canon_cons_unit_zero (S := S1x4096x5) hz3, View.canon_cons_unit_zero (S := S4096x128) hz2,
      load_whole h13 hz2, load_whole h14 hz2, load_whole h2 hz3, load_whole h3 hz3, load_whole h4 hz2,
      load_whole h5 hz2, load_whole h6 hz2, load_whole h7 hz2, load_whole h8 hz2, load_whole h9 hz2]

end Cert.KernelIdeal.Point

end
-- ==== Proof.KernelResult.lean ====
/- What the kernel's three results hold: by induction over the grid points, each point leaves its nodes' states after the
   point's time step, and its output block is the output layer on those hidden vectors. -/
module

public import proofs.«01_k».proof.Proof.Windows
public import proofs.«01_k».proof.Proof.Point
public import proofs.«01_k».proof.Proof.Gen.KernelIdeal.Value

@[expose] public section

noncomputable section

namespace Cert.KernelIdeal.Result

open Idealize.ShloMosaic Idealize.ShloMosaic.TcCoe Cert.KernelIdeal Cert.KernelIdeal.Gen Cert.Lstm Idealize.SL.Sem
open Idealize.ShloMosaic.Pointwise
open Cert.KernelIdeal.Operands Cert.KernelIdeal.Windows

variable (m : (ℓ : Loc nD τ sig) → Buf (Elt Ideal) ℓ) (c : Dev nD)

/-- A node's state after `n` time steps of its inputs, from the zero state. -/
def stateAfter (n : Fin 16384) (t : ℕ) : State := states (weights m c) (shown m c n) t

/-- What point `t` should leave: its output block, the two blocks it hands out when it is a last time step, and the two
    carried blocks. -/
structure Leaves (t : Fin cfg0.N) (o : Vec Ideal S1x4096x5 .f32 × Vec Ideal S4096x128 .f32 × Vec Ideal S4096x128 .f32
    × Vec Ideal S4096x128 .f32 × Vec Ideal S4096x128 .f32) : Prop where
  out : ∀ (r : Fin 4096) (q : Fin 5),
    o.1 (ix3 (0 : Fin 1) r q) = outRow (weights m c) (stateAfter m c (node t r) (t.val % 20 + 1)).h q
  hid : t.val % 20 = 19 → ∀ (r : Fin 4096) (k : Fin 128),
    o.2.1 (ix2 r k) = (stateAfter m c (node t r) (t.val % 20 + 1)).h k
  cel : t.val % 20 = 19 → ∀ (r : Fin 4096) (k : Fin 128),
    o.2.2.1 (ix2 r k) = (stateAfter m c (node t r) (t.val % 20 + 1)).c k
  carH : ∀ (r : Fin 4096) (k : Fin 128), o.2.2.2.1 (ix2 r k) = (stateAfter m c (node t r) (t.val % 20 + 1)).h k
  carC : ∀ (r : Fin 4096) (k : Fin 128), o.2.2.2.2 (ix2 r k) = (stateAfter m c (node t r) (t.val % 20 + 1)).c k

variable (t : Fin cfg0.N) (v21 v22 : Vec Ideal S4096x128 .f32)

/-- The new hidden block, from blocks holding the states before the point's time step. -/
theorem hidden_apply
    (hs : ∀ (r : Fin 4096) (k : Fin 128), v21 (ix2 r k) = (stateAfter m c (node t r) (t.val % 20)).h k)
    (hc : ∀ (r : Fin 4096) (k : Fin 128), v22 (ix2 r k) = (stateAfter m c (node t r) (t.val % 20)).c k)
    (r : Fin 4096) (k : Fin 128) :
    k0_pay5 (F := Ideal) v22 (k0_pay3 (F := Ideal) (iblk m c 0 t) (iblk m c 1 t) (iblk m c 2 t) (iblk m c 3 t) v21 (iblk m c 4 t) (iblk m c 5 t)) (ix2 r k) = (stateAfter m c (node t r) (t.val % 20 + 1)).h k := by
  refine (Block.pay5_apply (Windows.holds m c t) _ _ v21 v22 _ r (hs r) (hc r) k).trans ?_
  rw [inputOf_eq]
  rfl

/-- The new cell block, from the same blocks. -/
theorem cell_apply
    (hs : ∀ (r : Fin 4096) (k : Fin 128), v21 (ix2 r k) = (stateAfter m c (node t r) (t.val % 20)).h k)
    (hc : ∀ (r : Fin 4096) (k : Fin 128), v22 (ix2 r k) = (stateAfter m c (node t r) (t.val % 20)).c k)
    (r : Fin 4096) (k : Fin 128) :
    k0_pay4 (F := Ideal) v22 (k0_pay3 (F := Ideal) (iblk m c 0 t) (iblk m c 1 t) (iblk m c 2 t) (iblk m c 3 t) v21 (iblk m c 4 t) (iblk m c 5 t)) (ix2 r k) = (stateAfter m c (node t r) (t.val % 20 + 1)).c k := by
  refine (Block.pay4_apply (Windows.holds m c t) _ _ v21 v22 _ r (hs r) (hc r) k).trans ?_
  rw [inputOf_eq]
  rfl

/-- The output block, from the same blocks. -/
theorem output_apply
    (hs : ∀ (r : Fin 4096) (k : Fin 128), v21 (ix2 r k) = (stateAfter m c (node t r) (t.val % 20)).h k)
    (hc : ∀ (r : Fin 4096) (k : Fin 128), v22 (ix2 r k) = (stateAfter m c (node t r) (t.val % 20)).c k)
    (r : Fin 4096) (q : Fin 5) :
    k0_pay8 (F := Ideal) v22 (k0_pay3 (F := Ideal) (iblk m c 0 t) (iblk m c 1 t) (iblk m c 2 t) (iblk m c 3 t) v21 (iblk m c 4 t) (iblk m c 5 t)) (iblk m c 6 t) (iblk m c 7 t) (ix3 (0 : Fin 1) r q)
      = outRow (weights m c) (stateAfter m c (node t r) (t.val % 20 + 1)).h q := by
  refine (Block.pay8_apply (Windows.holds m c t) _ _ v21 v22 _ r (hs r) (hc r) q).trans ?_
  rw [inputOf_eq]
  rfl

/-- A first time step leaves what it should. -/
theorem leaves_first (h0 : t.val % 20 = 0) : Leaves m c t (outsAt0 m c t.val t.isLt) := by
  have h1 : ¬t.val % 20 = 19 := by omega
  have hs : ∀ (r : Fin 4096) (k : Fin 128), k0_pay1 (F := Ideal) (ix2 r k) = (stateAfter m c (node t r) (t.val % 20)).h k := by
    intro r k; rw [h0]; exact Block.pay1_apply r k
  have hc : ∀ (r : Fin 4096) (k : Fin 128), k0_pay2 (F := Ideal) (ix2 r k) = (stateAfter m c (node t r) (t.val % 20)).c k := by
    intro r k; rw [h0]; exact Block.pay2_apply r k
  rw [outsAt0_A m c t h0 h1, Point.first.1, Point.first.2.1, Point.first.2.2, Block.pay6_eq, Block.pay7_eq]
  exact ⟨output_apply m c t _ _ hs hc, fun h => absurd h h1, fun h => absurd h h1, hidden_apply m c t _ _ hs hc,
    cell_apply m c t _ _ hs hc⟩

/-- A later time step leaves what it should when the point before did. -/
theorem leaves_later (h0 : ¬t.val % 20 = 0)
    (hs : ∀ (r : Fin 4096) (k : Fin 128), (outsAt0 m c (t.val - 1) (Nat.lt_of_le_of_lt (Nat.sub_le _ _) t.isLt)).2.2.2.1 (ix2 r k)
      = (stateAfter m c (node t r) (t.val % 20)).h k)
    (hc : ∀ (r : Fin 4096) (k : Fin 128), (outsAt0 m c (t.val - 1) (Nat.lt_of_le_of_lt (Nat.sub_le _ _) t.isLt)).2.2.2.2 (ix2 r k)
      = (stateAfter m c (node t r) (t.val % 20)).c k) : Leaves m c t (outsAt0 m c t.val t.isLt) := by
  by_cases h1 : t.val % 20 = 19
  · rw [outsAt0_C m c t h0 h1, Point.last.1, Point.last.2.1, Point.last.2.2.1, Point.last.2.2.2.1, Point.last.2.2.2.2,
      Block.pay6_eq, Block.pay7_eq]
    exact ⟨output_apply m c t _ _ hs hc, fun _ => hidden_apply m c t _ _ hs hc, fun _ => cell_apply m c t _ _ hs hc,
      hidden_apply m c t _ _ hs hc, cell_apply m c t _ _ hs hc⟩
  · rw [outsAt0_B m c t h0 h1, Point.middle.1, Point.middle.2.1, Point.middle.2.2, Block.pay6_eq, Block.pay7_eq]
    exact ⟨output_apply m c t _ _ hs hc, fun h => absurd h h1, fun h => absurd h h1, hidden_apply m c t _ _ hs hc,
      cell_apply m c t _ _ hs hc⟩

/-- Every point leaves what it should. -/
theorem leaves : ∀ (n : ℕ) (hn : n < cfg0.N), Leaves m c ⟨n, hn⟩ (outsAt0 m c n hn)
  | 0, hn => leaves_first m c ⟨0, hn⟩ rfl
  | n + 1, hn => by
    by_cases h0 : (n + 1) % 20 = 0
    · exact leaves_first m c ⟨n + 1, hn⟩ h0
    · have ih := leaves n (Nat.lt_of_succ_lt hn)
      have hmod : n % 20 + 1 = (n + 1) % 20 := by omega
      have hnode : ∀ r, node ⟨n, Nat.lt_of_succ_lt hn⟩ r = node ⟨n + 1, hn⟩ r := fun r => by
        apply Fin.ext
        show 4096 * (n / 20) + r.val = 4096 * ((n + 1) / 20) + r.val
        omega
      refine leaves_later m c ⟨n + 1, hn⟩ h0 (fun r k => ?_) fun r k => ?_
      · refine (ih.carH r k).trans ?_
        rw [hnode]
        show (stateAfter m c _ (n % 20 + 1)).h k = _
        rw [hmod]
      · refine (ih.carC r k).trans ?_
        rw [hnode]
        show (stateAfter m c _ (n % 20 + 1)).c k = _
        rw [hmod]

/-- The first result: at time step `s` and node `n`, the output layer on the node's hidden vector after that step. -/
theorem G8_apply (s : Fin 20) (n : Fin 16384) (q : Fin 5) :
    (Value.G8 m c : Vec Ideal S20x16384x5 .f32) (ix3 s n q)
      = outRow (weights m c) (stateAfter m c n (s.val + 1)).h q := by
  have hN : cfg0.N = 80 := N_0
  have hp : Value.pt8Of (ix3 s n q) = s.val + 20 * (n.val / 4096) := by
    show 1 * (s.val / 1 - 0) + 20 * (n.val / 4096 - 0) + 80 * (q.val / 5 - 0) = _
    have := q.isLt
    omega
  have hlt : Value.pt8Of (ix3 s n q) < cfg0.N := by rw [hp, hN]; have := s.isLt; have := n.isLt; omega
  unfold Value.G8
  rw [dif_pos hlt, ← Value.outsAt0_sweep m c _ hlt]
  have hl : Value.loc8Of (ix3 s n q) = ix3 (0 : Fin 1) (⟨n.val % 4096, Nat.mod_lt _ (by decide)⟩ : Fin 4096) q := by
    funext a
    apply Fin.ext
    match a with
    | ⟨0, _⟩ => show s.val % 1 = 0; omega
    | ⟨1, _⟩ => rfl
    | ⟨2, _⟩ => show q.val % 5 = q.val; have := q.isLt; omega
  rw [hl]
  refine ((leaves m c _ hlt).out _ q).trans ?_
  have hm : Value.pt8Of (ix3 s n q) % 20 = s.val := by rw [hp]; have := s.isLt; omega
  have hn : node ⟨_, hlt⟩ (⟨n.val % 4096, Nat.mod_lt _ (by decide)⟩ : Fin 4096) = n := by
    apply Fin.ext
    show 4096 * (Value.pt8Of (ix3 s n q) / 20) + n.val % 4096 = n.val
    rw [hp]; have := s.isLt; omega
  rw [hn]
  show outRow _ (stateAfter m c n (Value.pt8Of (ix3 s n q) % 20 + 1)).h q = _
  rw [hm]

/-- The second result: each node's hidden vector after the last time step. -/
theorem G9_apply (n : Fin 16384) (k : Fin 128) :
    (Value.G9 m c : Vec Ideal S16384x128 .f32) (ix2 n k) = (stateAfter m c n 20).h k := by
  have hN : cfg0.N = 80 := N_0
  have hp : Value.pt9Of (ix2 n k) = 20 * (n.val / 4096) + 19 := by
    show 20 * (1 * (n.val / 4096 - 0) + 1 * (k.val / 128 - 0)) + 19 = _
    have := k.isLt
    omega
  have hlt : Value.pt9Of (ix2 n k) < cfg0.N := by rw [hp, hN]; have := n.isLt; omega
  unfold Value.G9
  rw [dif_pos hlt, ← Value.outsAt0_sweep m c _ hlt]
  have hl : Value.loc9Of (ix2 n k) = ix2 (⟨n.val % 4096, Nat.mod_lt _ (by decide)⟩ : Fin 4096) k := by
    funext a
    apply Fin.ext
    match a with
    | ⟨0, _⟩ => rfl
    | ⟨1, _⟩ => show k.val % 128 = k.val; have := k.isLt; omega
  rw [hl]
  have hm : Value.pt9Of (ix2 n k) % 20 = 19 := by rw [hp]; omega
  refine ((leaves m c _ hlt).hid hm _ k).trans ?_
  have hn : node ⟨_, hlt⟩ (⟨n.val % 4096, Nat.mod_lt _ (by decide)⟩ : Fin 4096) = n := by
    apply Fin.ext
    show 4096 * (Value.pt9Of (ix2 n k) / 20) + n.val % 4096 = n.val
    rw [hp]; omega
  rw [hn]
  show (stateAfter m c n (Value.pt9Of (ix2 n k) % 20 + 1)).h k = _
  rw [hm]

/-- The third result: each node's cell vector after the last time step. -/
theorem G10_apply (n : Fin 16384) (k : Fin 128) :
    (Value.G10 m c : Vec Ideal S16384x128 .f32) (ix2 n k) = (stateAfter m c n 20).c k := by
  have hN : cfg0.N = 80 := N_0
  have hp : Value.pt10Of (ix2 n k) = 20 * (n.val / 4096) + 19 := by
    show 20 * (1 * (n.val / 4096 - 0) + 1 * (k.val / 128 - 0)) + 19 = _
    have := k.isLt
    omega
  have hlt : Value.pt10Of (ix2 n k) < cfg0.N := by rw [hp, hN]; have := n.isLt; omega
  unfold Value.G10
  rw [dif_pos hlt, ← Value.outsAt0_sweep m c _ hlt]
  have hl : Value.loc10Of (ix2 n k) = ix2 (⟨n.val % 4096, Nat.mod_lt _ (by decide)⟩ : Fin 4096) k := by
    funext a
    apply Fin.ext
    match a with
    | ⟨0, _⟩ => rfl
    | ⟨1, _⟩ => show k.val % 128 = k.val; have := k.isLt; omega
  rw [hl]
  have hm : Value.pt10Of (ix2 n k) % 20 = 19 := by rw [hp]; omega
  refine ((leaves m c _ hlt).cel hm _ k).trans ?_
  have hn : node ⟨_, hlt⟩ (⟨n.val % 4096, Nat.mod_lt _ (by decide)⟩ : Fin 4096) = n := by
    apply Fin.ext
    show 4096 * (Value.pt10Of (ix2 n k) / 20) + n.val % 4096 = n.val
    rw [hp]; omega
  rw [hn]
  show (stateAfter m c n (Value.pt10Of (ix2 n k) % 20 + 1)).c k = _
  rw [hm]

end Cert.KernelIdeal.Result

end
-- ==== Proof.Equal.lean ====
/- From memories that agree on the arguments and satisfy the precondition, the reference's three results are the kernel's. -/
module

public import proofs.«01_k».proof.Proof.RefEntry
public import proofs.«01_k».proof.Proof.KernelResult

@[expose] public section

noncomputable section

namespace Cert.Proof

open Idealize.ShloMosaic Idealize.ShloMosaic.TcCoe Idealize.ShloMosaic.Pointwise Idealize.SL.Sem Cert.Lstm
open Cert.ReferenceIdeal.Trip

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- What the two programs' arguments on one device share, with the precondition's three readings. -/
structure Agree : Prop where
  arg0 : m' (c, Proc.tc.devRef Cert.ReferenceIdeal.main_arg0) = m (c, Proc.tc.devRef Cert.KernelIdeal.main_arg0)
  arg2 : m' (c, Proc.tc.devRef Cert.ReferenceIdeal.main_arg2) = m (c, Proc.tc.devRef Cert.KernelIdeal.main_arg2)
  arg3 : m' (c, Proc.tc.devRef Cert.ReferenceIdeal.main_arg3) = m (c, Proc.tc.devRef Cert.KernelIdeal.main_arg3)
  arg4 : m' (c, Proc.tc.devRef Cert.ReferenceIdeal.main_arg4) = m (c, Proc.tc.devRef Cert.KernelIdeal.main_arg4)
  arg5 : m' (c, Proc.tc.devRef Cert.ReferenceIdeal.main_arg5) = m (c, Proc.tc.devRef Cert.KernelIdeal.main_arg5)
  arg6 : m' (c, Proc.tc.devRef Cert.ReferenceIdeal.main_arg6) = m (c, Proc.tc.devRef Cert.KernelIdeal.main_arg6)
  arg7 : m' (c, Proc.tc.devRef Cert.ReferenceIdeal.main_arg7) = m (c, Proc.tc.devRef Cert.KernelIdeal.main_arg7)
  arg8 : m' (c, Proc.tc.devRef Cert.ReferenceIdeal.main_arg8) = m (c, Proc.tc.devRef Cert.KernelIdeal.main_arg8)
  arg9 : m' (c, Proc.tc.devRef Cert.ReferenceIdeal.main_arg9) = m (c, Proc.tc.devRef Cert.KernelIdeal.main_arg9)
  arg10 : m' (c, Proc.tc.devRef Cert.ReferenceIdeal.main_arg10) = m (c, Proc.tc.devRef Cert.KernelIdeal.main_arg10)
  arg11 : m' (c, Proc.tc.devRef Cert.ReferenceIdeal.main_arg11) = m (c, Proc.tc.devRef Cert.KernelIdeal.main_arg11)
  arg12 : m' (c, Proc.tc.devRef Cert.ReferenceIdeal.main_arg12) = m (c, Proc.tc.devRef Cert.KernelIdeal.main_arg12)
  arg13 : m' (c, Proc.tc.devRef Cert.ReferenceIdeal.main_arg13) = m (c, Proc.tc.devRef Cert.KernelIdeal.main_arg13)
  arg14 : m' (c, Proc.tc.devRef Cert.ReferenceIdeal.main_arg14) = m (c, Proc.tc.devRef Cert.KernelIdeal.main_arg14)
  arg15 : m' (c, Proc.tc.devRef Cert.ReferenceIdeal.main_arg15) = m (c, Proc.tc.devRef Cert.KernelIdeal.main_arg15)
  active : ∀ (t : Fin 20) (n : Fin 16384), m (c, Proc.tc.devRef Cert.KernelIdeal.main_arg4) (ix2 t n) = (1 : EReal)
  hidden : ∀ (n : Fin 16384) (k : Fin 128), m (c, Proc.tc.devRef Cert.KernelIdeal.main_arg2) (ix2 n k) = (0 : EReal)
  cells : ∀ (n : Fin 16384) (k : Fin 128), m (c, Proc.tc.devRef Cert.KernelIdeal.main_arg3) (ix2 n k) = (0 : EReal)

variable {m m' c} (h : Agree m m' c)
include h

/-- The two programs read the same weights. -/
theorem weights_eq : weightsAt (entry m' c) = Cert.KernelIdeal.Operands.weights m c := by
  unfold weightsAt Cert.KernelIdeal.Operands.weights
  rw [Weights.mk.injEq]
  exact ⟨funext fun k => funext fun i => congrFun ((entry_3 m' c).trans h.arg6) (ix2 k i),
    funext fun k => congrFun ((entry_4 m' c).trans h.arg7) (ix1 k),
    funext fun k => funext fun i => congrFun ((entry_5 m' c).trans h.arg8) (ix2 k i),
    funext fun k => congrFun ((entry_6 m' c).trans h.arg9) (ix1 k),
    funext fun k => funext fun i => congrFun ((entry_7 m' c).trans h.arg10) (ix2 k i),
    funext fun k => funext fun i => congrFun ((entry_9 m' c).trans h.arg11) (ix2 k i),
    funext fun k => congrFun ((entry_8 m' c).trans h.arg12) (ix1 k),
    funext fun k => congrFun ((entry_10 m' c).trans h.arg13) (ix1 k),
    funext fun k => funext fun i => congrFun ((entry_11 m' c).trans h.arg14) (ix2 k i),
    funext fun k => congrFun ((entry_12 m' c).trans h.arg15) (ix1 k)⟩

/-- The two programs are shown the same inputs. -/
theorem shown_eq (n : Fin 16384) : shownAt (entry m' c) n = Cert.KernelIdeal.Windows.shown m c n := by
  funext t
  unfold shownAt Cert.KernelIdeal.Windows.shown
  rw [Input.mk.injEq]
  exact ⟨funext fun i => congrFun ((entry_1 m' c).trans h.arg0) (ix3 _ n i),
    funext fun a => funext fun i => congrFun ((entry_2 m' c).trans h.arg5) (ix4 _ n a i)⟩

/-- The reference's loop starts from the zero state with every node active. -/
theorem start : After (entry m' c) 0 (entry m' c) where
  counter := entry_14 m' c
  mask t n := (congrFun ((entry_0 m' c).trans h.arg4) (ix2 t n)).trans (h.active t n)
  weights := rfl
  shown _ := rfl
  state n := by
    rw [stateAt_eq]
    show _ = State.mk _ _
    rw [State.mk.injEq]
    exact ⟨funext fun k => (congrFun ((entry_16 m' c).trans h.arg2) (ix2 n k)).trans (h.hidden n k),
      funext fun k => (congrFun ((entry_17 m' c).trans h.arg3) (ix2 n k)).trans (h.cells n k)⟩
  out s _ _ hs := absurd hs (Nat.not_lt_zero s.val)

/-- After all the trips. -/
theorem finish : After (entry m' c) 20 (Cert.ReferenceIdeal.Value.STEP^[20] (entry m' c)) :=
  after_iterate (start h) 20 le_rfl

/-- The outputs agree. -/
theorem outputs_eq : (Cert.ReferenceIdeal.Value.STEP^[20] (entry m' c)) (Proc.devRef .tc Cert.ReferenceIdeal.main_v1_15)
    = Cert.KernelIdeal.Value.G8 m c := by
  funext i
  obtain ⟨s, n, q, rfl⟩ : ∃ (s : Fin 20) (n : Fin 16384) (q : Fin 5), i = ix3 s n q := ⟨i 0, i 1, i 2, by
    funext t
    match t with
    | ⟨0, _⟩ => rfl
    | ⟨1, _⟩ => rfl
    | ⟨2, _⟩ => rfl⟩
  refine ((finish h).out s n q s.isLt).trans ?_
  rw [weights_eq h, shown_eq h n]
  exact (Cert.KernelIdeal.Result.G8_apply m c s n q).symm

/-- The final states, from the reference. -/
theorem final_state (n : Fin 16384) : stateAt (Cert.ReferenceIdeal.Value.STEP^[20] (entry m' c)) n
    = Cert.KernelIdeal.Result.stateAfter m c n 20 := by
  rw [(finish h).state n, weights_eq h, shown_eq h n]
  rfl

/-- The hidden tables agree. -/
theorem hidden_eq : (Cert.ReferenceIdeal.Value.STEP^[20] (entry m' c)) (Proc.devRef .tc Cert.ReferenceIdeal.main_v1_16)
    = Cert.KernelIdeal.Value.G9 m c := by
  funext i
  obtain ⟨n, k, rfl⟩ : ∃ (n : Fin 16384) (k : Fin 128), i = ix2 n k := ⟨i 0, i 1, by
    funext t
    match t with
    | ⟨0, _⟩ => rfl
    | ⟨1, _⟩ => rfl⟩
  refine Eq.trans ?_ (Cert.KernelIdeal.Result.G9_apply m c n k).symm
  rw [← final_state h n, stateAt_eq]

/-- The cell tables agree. -/
theorem cells_eq : (Cert.ReferenceIdeal.Value.STEP^[20] (entry m' c)) (Proc.devRef .tc Cert.ReferenceIdeal.main_v1_17)
    = Cert.KernelIdeal.Value.G10 m c := by
  funext i
  obtain ⟨n, k, rfl⟩ : ∃ (n : Fin 16384) (k : Fin 128), i = ix2 n k := ⟨i 0, i 1, by
    funext t
    match t with
    | ⟨0, _⟩ => rfl
    | ⟨1, _⟩ => rfl⟩
  refine Eq.trans ?_ (Cert.KernelIdeal.Result.G10_apply m c n k).symm
  rw [← final_state h n, stateAt_eq]

end Cert.Proof

end
-- ==== Proof.lean ====
/- The claims: the three programs run, change no argument and leave every semaphore counter at zero; the idealization is
   the kernel's own text; and, from a start at rest with every node active, the kernel and the reference compute the same
   three results over the extended reals. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Pre
public import proofs.«01_k».proof.Proof.Equal
public import Idealize.ShloMosaic.Lib.Quiescent

@[expose] public section

noncomputable section

namespace Cert.Proof

open Idealize.ShloMosaic Idealize.SL.Sem

/-- The facts that the precondition's program needs: the generated ones. -/
instance : Cert.Pre_all_active_from_rest.Facts := Cert.Pre_all_active_from_rest.facts

/-- The reference changes no argument, and it has no semaphore. -/
theorem frame_reference : Cert.quiescent_ReferenceIdeal := fun m g _ =>
  (θ_run _ _ _).mono (fun r h => ⟨fun c => (h c).2.2.2, sem_eq_zero_of_no_sems rfl r.2⟩) (Cert.ReferenceIdeal.Value.run m g)

/-- The precondition and the equality of the arguments, device by device. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_all_active_from_rest m) (c : Dev Cert.KernelIdeal.nD)
    (h0 : m' (c, Proc.tc.devRef Cert.ReferenceIdeal.main_arg0) = m (c, Proc.tc.devRef Cert.KernelIdeal.main_arg0))
    (h2 : m' (c, Proc.tc.devRef Cert.ReferenceIdeal.main_arg2) = m (c, Proc.tc.devRef Cert.KernelIdeal.main_arg2))
    (h3 : m' (c, Proc.tc.devRef Cert.ReferenceIdeal.main_arg3) = m (c, Proc.tc.devRef Cert.KernelIdeal.main_arg3))
    (h4 : m' (c, Proc.tc.devRef Cert.ReferenceIdeal.main_arg4) = m (c, Proc.tc.devRef Cert.KernelIdeal.main_arg4))
    (h5 : m' (c, Proc.tc.devRef Cert.ReferenceIdeal.main_arg5) = m (c, Proc.tc.devRef Cert.KernelIdeal.main_arg5))
    (h6 : m' (c, Proc.tc.devRef Cert.ReferenceIdeal.main_arg6) = m (c, Proc.tc.devRef Cert.KernelIdeal.main_arg6))
    (h7 : m' (c, Proc.tc.devRef Cert.ReferenceIdeal.main_arg7) = m (c, Proc.tc.devRef Cert.KernelIdeal.main_arg7))
    (h8 : m' (c, Proc.tc.devRef Cert.ReferenceIdeal.main_arg8) = m (c, Proc.tc.devRef Cert.KernelIdeal.main_arg8))
    (h9 : m' (c, Proc.tc.devRef Cert.ReferenceIdeal.main_arg9) = m (c, Proc.tc.devRef Cert.KernelIdeal.main_arg9))
    (h10 : m' (c, Proc.tc.devRef Cert.ReferenceIdeal.main_arg10) = m (c, Proc.tc.devRef Cert.KernelIdeal.main_arg10))
    (h11 : m' (c, Proc.tc.devRef Cert.ReferenceIdeal.main_arg11) = m (c, Proc.tc.devRef Cert.KernelIdeal.main_arg11))
    (h12 : m' (c, Proc.tc.devRef Cert.ReferenceIdeal.main_arg12) = m (c, Proc.tc.devRef Cert.KernelIdeal.main_arg12))
    (h13 : m' (c, Proc.tc.devRef Cert.ReferenceIdeal.main_arg13) = m (c, Proc.tc.devRef Cert.KernelIdeal.main_arg13))
    (h14 : m' (c, Proc.tc.devRef Cert.ReferenceIdeal.main_arg14) = m (c, Proc.tc.devRef Cert.KernelIdeal.main_arg14))
    (h15 : m' (c, Proc.tc.devRef Cert.ReferenceIdeal.main_arg15) = m (c, Proc.tc.devRef Cert.KernelIdeal.main_arg15)) :
    Agree m m' c :=
  have e := fun t n k => Cert.Pre_all_active_from_rest.entries _ _ _ _ _ _ _ _ _ _ _ _ _ _ _ _ (hpre c) t n k
  ⟨h0, h2, h3, h4, h5, h6, h7, h8, h9, h10, h11, h12, h13, h14, h15,
    fun t n => (e t n 0).1, fun n k => (e 0 n k).2.1, fun n k => (e 0 n k).2.2⟩

/-- The kernel and the reference compute the same outputs, hidden tables and cell tables. -/
theorem values : Cert.algebraic_KernelIdeal_ReferenceIdeal_pre_all_active_from_rest := by
  intro m g m' g' hpre hargs
  refine ⟨fun c => Cert.KernelIdeal.Value.G8 m c, fun c => Cert.KernelIdeal.Value.G9 m c, fun c => Cert.KernelIdeal.Value.G10 m c,
    Cert.KernelIdeal.Value.run m g, ?_⟩
  refine (θ_run _ _ _).mono (fun r h c => ?_) (Cert.ReferenceIdeal.Value.run m' g')
  obtain ⟨h0, h1, h2, h3, h4, h5, h6, h7, h8, h9, h10, h11, h12, h13, h14, h15⟩ := hargs c
  have ha := agree m m' hpre c h0 h2 h3 h4 h5 h6 h7 h8 h9 h10 h11 h12 h13 h14 h15
  obtain ⟨r15, r16, r17, rest⟩ := h c
  exact ⟨r15.trans (outputs_eq ha), r16.trans (hidden_eq ha), r17.trans (cells_eq ha), rest⟩

/-- Every claim. -/
theorem claim : Cert.Claim :=
  ⟨Cert.Kernel.Gen.facts, Cert.KernelIdeal.Gen.facts, Cert.ReferenceIdeal.Gen.facts, Cert.Pre_all_active_from_rest.facts,
    fun m g _ => Cert.Kernel.Gen.frame m g, fun m g _ => Cert.KernelIdeal.Gen.frame m g, fun m g _ => Cert.KernelIdeal.Gen.frame m g,
    frame_reference, fun m g _ => frame_reference m g trivial, trivial, values⟩

end Cert.Proof

end
